-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x3x448x448 : Shape := ⟨4, ![64, 3, 448, 448]⟩
abbrev S64x3 : Shape := ⟨2, ![64, 3]⟩
abbrev S64x1344x448 : Shape := ⟨3, ![64, 1344, 448]⟩
abbrev S64x3x224x224 : Shape := ⟨4, ![64, 3, 224, 224]⟩
abbrev S4x1344x448 : Shape := ⟨3, ![4, 1344, 448]⟩
abbrev S8x3x224x224 : Shape := ⟨4, ![8, 3, 224, 224]⟩
abbrev S448x224 : Shape := ⟨2, ![448, 224]⟩
abbrev S1x1 : Shape := ⟨2, ![1, 1]⟩
abbrev S1x224 : Shape := ⟨2, ![1, 224]⟩
abbrev S1x1344x448 : Shape := ⟨3, ![1, 1344, 448]⟩
abbrev S1344x448 : Shape := ⟨2, ![1344, 448]⟩
abbrev S1344x224 : Shape := ⟨2, ![1344, 224]⟩
abbrev S224x224 : Shape := ⟨2, ![224, 224]⟩
abbrev S1x1x224x224 : Shape := ⟨4, ![1, 1, 224, 224]⟩

abbrev nBuf : Space → Nat
  | .hbm => 4
  | .vmem => 6
  | .smem => 1
  | _ => 0

abbrev bufTy : (tb : Table) → Fin (tcTables nBuf tb) → BufTy
  | .hbm, ⟨0, _⟩ => ⟨S64x3x448x448, .f32⟩
  | .hbm, ⟨1, _⟩ => ⟨S64x3, .f32⟩
  | .hbm, ⟨2, _⟩ => ⟨S64x1344x448, .f32⟩
  | .hbm, ⟨3, _⟩ => ⟨S64x3x224x224, .f32⟩
  | .local _ .vmem, ⟨0, _⟩ => ⟨S4x1344x448, .f32⟩
  | .local _ .vmem, ⟨1, _⟩ => ⟨S4x1344x448, .f32⟩
  | .local _ .vmem, ⟨2, _⟩ => ⟨S4x1344x448, .f32⟩
  | .local _ .vmem, ⟨3, _⟩ => ⟨S4x1344x448, .f32⟩
  | .local _ .vmem, ⟨4, _⟩ => ⟨S8x3x224x224, .f32⟩
  | .local _ .vmem, ⟨5, _⟩ => ⟨S8x3x224x224, .f32⟩
  | .local _ .smem, ⟨0, _⟩ => ⟨S64x3, .f32⟩
  | _, _ => ⟨S64x3x448x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def k0_off1 (i : grid0.Coords) (c0_i32 : BitVec 32) : Fin 2 → Nat :=
  let arg0 : BitVec 32 := BitVec.ofNat 32 (i 0).val
  let c8_i32 : BitVec 32 := 8#32
  let v1 : BitVec 32 := Scalar.muli arg0 c8_i32
  let v2 : BitVec 32 := Scalar.addi v1 c0_i32
  let v3 : Index := Scalar.indexCast v2
  let c0 : Index := 0#32
  ![v3.toNat, 0]
def k0_off2 (i : grid0.Coords) (c0_i32 : BitVec 32) : Fin 2 → Nat :=
  let arg0 : BitVec 32 := BitVec.ofNat 32 (i 0).val
  let c8_i32 : BitVec 32 := 8#32
  let v1 : BitVec 32 := Scalar.muli arg0 c8_i32
  let v2 : BitVec 32 := Scalar.addi v1 c0_i32
  let v5 : Index := Scalar.indexCast v2
  let c1 : Index := 1#32
  ![v5.toNat, 1]
def k0_off3 (i : grid0.Coords) (c0_i32 : BitVec 32) : Fin 2 → Nat :=
  let arg0 : BitVec 32 := BitVec.ofNat 32 (i 0).val
  let c8_i32 : BitVec 32 := 8#32
  let v1 : BitVec 32 := Scalar.muli arg0 c8_i32
  let v2 : BitVec 32 := Scalar.addi v1 c0_i32
  let v7 : Index := Scalar.indexCast v2
  let c2 : Index := 2#32
  ![v7.toNat, 2]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S64x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x1344x448 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1344x448 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x3x224x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S64x3x448x448 : Shape := ⟨4, ![64, 3, 448, 448]⟩
abbrev S64x3 : Shape := ⟨2, ![64, 3]⟩
abbrev S64x1 : Shape := ⟨2, ![64, 1]⟩
abbrev S64 : Shape := ⟨1, ![64]⟩
abbrev S_ : Shape := ⟨0, ![]⟩
abbrev S448 : Shape := ⟨1, ![448]⟩
abbrev S1x448 : Shape := ⟨2, ![1, 448]⟩
abbrev S64x448 : Shape := ⟨2, ![64, 448]⟩
abbrev S64x1x448x1 : Shape := ⟨4, ![64, 1, 448, 1]⟩
abbrev S64x1x1x448 : Shape := ⟨4, ![64, 1, 1, 448]⟩
abbrev S224 : Shape := ⟨1, ![224]⟩
abbrev S1x224 : Shape := ⟨2, ![1, 224]⟩
abbrev S64x224 : Shape := ⟨2, ![64, 224]⟩
abbrev S64x1x224x1 : Shape := ⟨4, ![64, 1, 224, 1]⟩
abbrev S64x3x224x448 : Shape := ⟨4, ![64, 3, 224, 448]⟩
abbrev S64x3x224x448x1 : Shape := ⟨5, ![64, 3, 224, 448, 1]⟩
abbrev S1 : Shape := ⟨1, ![1]⟩
abbrev S1x1x1x1x1 : Shape := ⟨5, ![1, 1, 1, 1, 1]⟩
abbrev S64x1x1x224 : Shape := ⟨4, ![64, 1, 1, 224]⟩
abbrev S64x3x224x224 : Shape := ⟨4, ![64, 3, 224, 224]⟩
abbrev S64x3x224x224x1 : Shape := ⟨5, ![64, 3, 224, 224, 1]⟩

abbrev nBuf : Space → Nat
  | .hbm => 323
  | .vmem => 0
  | .smem => 0
  | _ => 0

abbrev hbmTy0_0 (i : Nat) : BufTy := match i % 128 with
  | 0 => ⟨S64x3x448x448, .f32⟩
  | 1 => ⟨S64x3, .f32⟩
  | 2 => ⟨S64x1, .f32⟩
  | 3 => ⟨S64, .f32⟩
  | 4 => ⟨S64x1, .f32⟩
  | 5 => ⟨S64, .f32⟩
  | 6 => ⟨S64x1, .f32⟩
  | 7 => ⟨S64, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S64, .f32⟩
  | 17 => ⟨S64, .f32⟩
  | 18 => ⟨S64, .f32⟩
  | 19 => ⟨S64, .f32⟩
  | 20 => ⟨S_, .f32⟩
  | 21 => ⟨S64, .f32⟩
  | 22 => ⟨S64, .f32⟩
  | 23 => ⟨S64, .f32⟩
  | 24 => ⟨S64, .f32⟩
  | 25 => ⟨S_, .f32⟩
  | 26 => ⟨S64, .f32⟩
  | 27 => ⟨S64, .f32⟩
  | 28 => ⟨S64, .f32⟩
  | 29 => ⟨S64, .f32⟩
  | 30 => ⟨S64, .f32⟩
  | 31 => ⟨S64, .f32⟩
  | 32 => ⟨S_, .f32⟩
  | 33 => ⟨S64, .f32⟩
  | 34 => ⟨S64, .f32⟩
  | 35 => ⟨S64, .f32⟩
  | 36 => ⟨S_, .f32⟩
  | 37 => ⟨S64, .f32⟩
  | 38 => ⟨S64, .i1⟩
  | 39 => ⟨S64, .f32⟩
  | 40 => ⟨S64, .f32⟩
  | 41 => ⟨S_, .f32⟩
  | 42 => ⟨S64, .f32⟩
  | 43 => ⟨S64, .f32⟩
  | 44 => ⟨S64, .f32⟩
  | 45 => ⟨S64, .f32⟩
  | 46 => ⟨S_, .f32⟩
  | 47 => ⟨S64, .f32⟩
  | 48 => ⟨S64, .f32⟩
  | 49 => ⟨S64, .f32⟩
  | 50 => ⟨S_, .f32⟩
  | 51 => ⟨S64, .f32⟩
  | 52 => ⟨S64, .i1⟩
  | 53 => ⟨S64, .f32⟩
  | 54 => ⟨S64, .f32⟩
  | 55 => ⟨S_, .f32⟩
  | 56 => ⟨S64, .f32⟩
  | 57 => ⟨S64, .f32⟩
  | 58 => ⟨S448, .f32⟩
  | 59 => ⟨S1x448, .f32⟩
  | 60 => ⟨S64x1, .f32⟩
  | 61 => ⟨S64x448, .f32⟩
  | 62 => ⟨S64x448, .f32⟩
  | 63 => ⟨S64x448, .f32⟩
  | 64 => ⟨S_, .f32⟩
  | 65 => ⟨S64x448, .f32⟩
  | 66 => ⟨S64x448, .f32⟩
  | 67 => ⟨S64x448, .f32⟩
  | 68 => ⟨S64x448, .f32⟩
  | 69 => ⟨S_, .f32⟩
  | 70 => ⟨S64x448, .f32⟩
  | 71 => ⟨S64x448, .f32⟩
  | 72 => ⟨S_, .f32⟩
  | 73 => ⟨S64x448, .f32⟩
  | 74 => ⟨S64x448, .f32⟩
  | 75 => ⟨S1x448, .f32⟩
  | 76 => ⟨S64x1, .f32⟩
  | 77 => ⟨S64x448, .f32⟩
  | 78 => ⟨S64x448, .f32⟩
  | 79 => ⟨S64x448, .f32⟩
  | 80 => ⟨S_, .f32⟩
  | 81 => ⟨S64x448, .f32⟩
  | 82 => ⟨S64x448, .f32⟩
  | 83 => ⟨S64x448, .f32⟩
  | 84 => ⟨S64x448, .f32⟩
  | 85 => ⟨S_, .f32⟩
  | 86 => ⟨S64x448, .f32⟩
  | 87 => ⟨S64x448, .f32⟩
  | 88 => ⟨S_, .f32⟩
  | 89 => ⟨S64x448, .f32⟩
  | 90 => ⟨S64x448, .f32⟩
  | 91 => ⟨S64x448, .f32⟩
  | 92 => ⟨S1x448, .f32⟩
  | 93 => ⟨S64x1, .f32⟩
  | 94 => ⟨S64x448, .f32⟩
  | 95 => ⟨S64x448, .f32⟩
  | 96 => ⟨S64x448, .f32⟩
  | 97 => ⟨S_, .f32⟩
  | 98 => ⟨S64x448, .f32⟩
  | 99 => ⟨S64x448, .f32⟩
  | 100 => ⟨S64x448, .f32⟩
  | 101 => ⟨S64x448, .f32⟩
  | 102 => ⟨S_, .f32⟩
  | 103 => ⟨S64x448, .f32⟩
  | 104 => ⟨S64x448, .f32⟩
  | 105 => ⟨S_, .f32⟩
  | 106 => ⟨S64x448, .f32⟩
  | 107 => ⟨S64x448, .f32⟩
  | 108 => ⟨S1x448, .f32⟩
  | 109 => ⟨S64x1, .f32⟩
  | 110 => ⟨S64x448, .f32⟩
  | 111 => ⟨S64x448, .f32⟩
  | 112 => ⟨S64x448, .f32⟩
  | 113 => ⟨S_, .f32⟩
  | 114 => ⟨S64x448, .f32⟩
  | 115 => ⟨S64x448, .f32⟩
  | 116 => ⟨S64x448, .f32⟩
  | 117 => ⟨S64x448, .f32⟩
  | 118 => ⟨S_, .f32⟩
  | 119 => ⟨S64x448, .f32⟩
  | 120 => ⟨S64x448, .f32⟩
  | 121 => ⟨S_, .f32⟩
  | 122 => ⟨S64x448, .f32⟩
  | 123 => ⟨S64x448, .f32⟩
  | 124 => ⟨S64x448, .f32⟩
  | 125 => ⟨S64x1x448x1, .f32⟩
  | 126 => ⟨S64x3x448x448, .f32⟩
  | 127 => ⟨S64x3x448x448, .f32⟩
  | _ => ⟨S64x3x448x448, .f32⟩

abbrev hbmTy0_1 (i : Nat) : BufTy := match i % 128 with
  | 0 => ⟨S64x1x1x448, .f32⟩
  | 1 => ⟨S64x3x448x448, .f32⟩
  | 2 => ⟨S64x3x448x448, .f32⟩
  | 3 => ⟨S64, .f32⟩
  | 4 => ⟨S224, .f32⟩
  | 5 => ⟨S64x1, .f32⟩
  | 6 => ⟨S1x224, .f32⟩
  | 7 => ⟨S64x1, .f32⟩
  | 8 => ⟨S_, .f32⟩
  | 9 => ⟨S64x1, .f32⟩
  | 10 => ⟨S64x1, .f32⟩
  | 11 => ⟨S64x224, .f32⟩
  | 12 => ⟨S64x224, .f32⟩
  | 13 => ⟨S64x224, .f32⟩
  | 14 => ⟨S_, .f32⟩
  | 15 => ⟨S64x224, .f32⟩
  | 16 => ⟨S64x224, .f32⟩
  | 17 => ⟨S64x224, .f32⟩
  | 18 => ⟨S64x224, .f32⟩
  | 19 => ⟨S64x224, .f32⟩
  | 20 => ⟨S_, .f32⟩
  | 21 => ⟨S_, .f32⟩
  | 22 => ⟨S_, .f32⟩
  | 23 => ⟨S64x224, .f32⟩
  | 24 => ⟨S64x224, .f32⟩
  | 25 => ⟨S_, .f32⟩
  | 26 => ⟨S64x224, .f32⟩
  | 27 => ⟨S64x224, .f32⟩
  | 28 => ⟨S64x224, .i32⟩
  | 29 => ⟨S_, .i32⟩
  | 30 => ⟨S64x224, .i32⟩
  | 31 => ⟨S64x224, .i32⟩
  | 32 => ⟨S_, .i32⟩
  | 33 => ⟨S_, .i32⟩
  | 34 => ⟨S_, .i32⟩
  | 35 => ⟨S64x224, .i32⟩
  | 36 => ⟨S64x224, .i32⟩
  | 37 => ⟨S_, .i32⟩
  | 38 => ⟨S64x224, .i32⟩
  | 39 => ⟨S64x224, .i32⟩
  | 40 => ⟨S64x224, .f32⟩
  | 41 => ⟨S64x224, .f32⟩
  | 42 => ⟨S64x1x224x1, .i32⟩
  | 43 => ⟨S64x3x224x448, .i32⟩
  | 44 => ⟨S_, .i32⟩
  | 45 => ⟨S64x3x224x448, .i32⟩
  | 46 => ⟨S64x3x224x448, .i1⟩
  | 47 => ⟨S_, .i32⟩
  | 48 => ⟨S64x3x224x448, .i32⟩
  | 49 => ⟨S64x3x224x448, .i32⟩
  | 50 => ⟨S64x3x224x448, .i32⟩
  | 51 => ⟨S64x3x224x448x1, .i32⟩
  | 52 => ⟨S1, .i32⟩
  | 53 => ⟨S_, .i32⟩
  | 54 => ⟨S64x3x224x448x1, .i32⟩
  | 55 => ⟨S64x3x224x448x1, .i1⟩
  | 56 => ⟨S1x1x1x1x1, .i32⟩
  | 57 => ⟨S64x3x224x448x1, .i32⟩
  | 58 => ⟨S64x3x224x448x1, .i1⟩
  | 59 => ⟨S64x3x224x448x1, .i1⟩
  | 60 => ⟨S_, .i1⟩
  | 61 => ⟨S64x3x224x448, .i1⟩
  | 62 => ⟨S64x3x224x448, .f32⟩
  | 63 => ⟨S_, .f32⟩
  | 64 => ⟨S64x3x224x448, .f32⟩
  | 65 => ⟨S64x3x224x448, .f32⟩
  | 66 => ⟨S64x1x224x1, .i32⟩
  | 67 => ⟨S64x3x224x448, .i32⟩
  | 68 => ⟨S_, .i32⟩
  | 69 => ⟨S64x3x224x448, .i32⟩
  | 70 => ⟨S64x3x224x448, .i1⟩
  | 71 => ⟨S_, .i32⟩
  | 72 => ⟨S64x3x224x448, .i32⟩
  | 73 => ⟨S64x3x224x448, .i32⟩
  | 74 => ⟨S64x3x224x448, .i32⟩
  | 75 => ⟨S64x3x224x448x1, .i32⟩
  | 76 => ⟨S1, .i32⟩
  | 77 => ⟨S_, .i32⟩
  | 78 => ⟨S64x3x224x448x1, .i32⟩
  | 79 => ⟨S64x3x224x448x1, .i1⟩
  | 80 => ⟨S1x1x1x1x1, .i32⟩
  | 81 => ⟨S64x3x224x448x1, .i32⟩
  | 82 => ⟨S64x3x224x448x1, .i1⟩
  | 83 => ⟨S64x3x224x448x1, .i1⟩
  | 84 => ⟨S_, .i1⟩
  | 85 => ⟨S64x3x224x448, .i1⟩
  | 86 => ⟨S64x3x224x448, .f32⟩
  | 87 => ⟨S_, .f32⟩
  | 88 => ⟨S64x3x224x448, .f32⟩
  | 89 => ⟨S64x3x224x448, .f32⟩
  | 90 => ⟨S64x1x224x1, .f32⟩
  | 91 => ⟨S_, .f32⟩
  | 92 => ⟨S64x1x224x1, .f32⟩
  | 93 => ⟨S64x1x224x1, .f32⟩
  | 94 => ⟨S64x3x224x448, .f32⟩
  | 95 => ⟨S64x3x224x448, .f32⟩
  | 96 => ⟨S64x3x224x448, .f32⟩
  | 97 => ⟨S64x3x224x448, .f32⟩
  | 98 => ⟨S64x3x224x448, .f32⟩
  | 99 => ⟨S64, .f32⟩
  | 100 => ⟨S224, .f32⟩
  | 101 => ⟨S64x1, .f32⟩
  | 102 => ⟨S1x224, .f32⟩
  | 103 => ⟨S64x1, .f32⟩
  | 104 => ⟨S_, .f32⟩
  | 105 => ⟨S64x1, .f32⟩
  | 106 => ⟨S64x1, .f32⟩
  | 107 => ⟨S64x224, .f32⟩
  | 108 => ⟨S64x224, .f32⟩
  | 109 => ⟨S64x224, .f32⟩
  | 110 => ⟨S_, .f32⟩
  | 111 => ⟨S64x224, .f32⟩
  | 112 => ⟨S64x224, .f32⟩
  | 113 => ⟨S64x224, .f32⟩
  | 114 => ⟨S64x224, .f32⟩
  | 115 => ⟨S64x224, .f32⟩
  | 116 => ⟨S_, .f32⟩
  | 117 => ⟨S_, .f32⟩
  | 118 => ⟨S_, .f32⟩
  | 119 => ⟨S64x224, .f32⟩
  | 120 => ⟨S64x224, .f32⟩
  | 121 => ⟨S_, .f32⟩
  | 122 => ⟨S64x224, .f32⟩
  | 123 => ⟨S64x224, .f32⟩
  | 124 => ⟨S64x224, .i32⟩
  | 125 => ⟨S_, .i32⟩
  | 126 => ⟨S64x224, .i32⟩
  | 127 => ⟨S64x224, .i32⟩
  | _ => ⟨S64x3x448x448, .f32⟩

abbrev hbmTy0_2 (i : Nat) : BufTy := match i % 128 with
  | 0 => ⟨S_, .i32⟩
  | 1 => ⟨S_, .i32⟩
  | 2 => ⟨S_, .i32⟩
  | 3 => ⟨S64x224, .i32⟩
  | 4 => ⟨S64x224, .i32⟩
  | 5 => ⟨S_, .i32⟩
  | 6 => ⟨S64x224, .i32⟩
  | 7 => ⟨S64x224, .i32⟩
  | 8 => ⟨S64x224, .f32⟩
  | 9 => ⟨S64x224, .f32⟩
  | 10 => ⟨S64x1x1x224, .i32⟩
  | 11 => ⟨S64x3x224x224, .i32⟩
  | 12 => ⟨S_, .i32⟩
  | 13 => ⟨S64x3x224x224, .i32⟩
  | 14 => ⟨S64x3x224x224, .i1⟩
  | 15 => ⟨S_, .i32⟩
  | 16 => ⟨S64x3x224x224, .i32⟩
  | 17 => ⟨S64x3x224x224, .i32⟩
  | 18 => ⟨S64x3x224x224, .i32⟩
  | 19 => ⟨S64x3x224x224x1, .i32⟩
  | 20 => ⟨S1, .i32⟩
  | 21 => ⟨S_, .i32⟩
  | 22 => ⟨S64x3x224x224x1, .i32⟩
  | 23 => ⟨S64x3x224x224x1, .i1⟩
  | 24 => ⟨S1x1x1x1x1, .i32⟩
  | 25 => ⟨S64x3x224x224x1, .i32⟩
  | 26 => ⟨S64x3x224x224x1, .i1⟩
  | 27 => ⟨S64x3x224x224x1, .i1⟩
  | 28 => ⟨S_, .i1⟩
  | 29 => ⟨S64x3x224x224, .i1⟩
  | 30 => ⟨S64x3x224x224, .f32⟩
  | 31 => ⟨S_, .f32⟩
  | 32 => ⟨S64x3x224x224, .f32⟩
  | 33 => ⟨S64x3x224x224, .f32⟩
  | 34 => ⟨S64x1x1x224, .i32⟩
  | 35 => ⟨S64x3x224x224, .i32⟩
  | 36 => ⟨S_, .i32⟩
  | 37 => ⟨S64x3x224x224, .i32⟩
  | 38 => ⟨S64x3x224x224, .i1⟩
  | 39 => ⟨S_, .i32⟩
  | 40 => ⟨S64x3x224x224, .i32⟩
  | 41 => ⟨S64x3x224x224, .i32⟩
  | 42 => ⟨S64x3x224x224, .i32⟩
  | 43 => ⟨S64x3x224x224x1, .i32⟩
  | 44 => ⟨S1, .i32⟩
  | 45 => ⟨S_, .i32⟩
  | 46 => ⟨S64x3x224x224x1, .i32⟩
  | 47 => ⟨S64x3x224x224x1, .i1⟩
  | 48 => ⟨S1x1x1x1x1, .i32⟩
  | 49 => ⟨S64x3x224x224x1, .i32⟩
  | 50 => ⟨S64x3x224x224x1, .i1⟩
  | 51 => ⟨S64x3x224x224x1, .i1⟩
  | 52 => ⟨S_, .i1⟩
  | 53 => ⟨S64x3x224x224, .i1⟩
  | 54 => ⟨S64x3x224x224, .f32⟩
  | 55 => ⟨S_, .f32⟩
  | 56 => ⟨S64x3x224x224, .f32⟩
  | 57 => ⟨S64x3x224x224, .f32⟩
  | 58 => ⟨S64x1x1x224, .f32⟩
  | 59 => ⟨S_, .f32⟩
  | 60 => ⟨S64x1x1x224, .f32⟩
  | 61 => ⟨S64x1x1x224, .f32⟩
  | 62 => ⟨S64x3x224x224, .f32⟩
  | 63 => ⟨S64x3x224x224, .f32⟩
  | 64 => ⟨S64x3x224x224, .f32⟩
  | 65 => ⟨S64x3x224x224, .f32⟩
  | 66 => ⟨S64x3x224x224, .f32⟩
  | _ => ⟨S64x3x448x448, .f32⟩

abbrev hbmTy (i : Nat) : BufTy := match i / 128 with
  | 0 => hbmTy0_0 i
  | 1 => hbmTy0_1 i
  | 2 => hbmTy0_2 i
  | _ => ⟨S64x3x448x448, .f32⟩

abbrev bufTy : (tb : Table) → Fin (tcTables nBuf tb) → BufTy
  | .hbm, ⟨i, _⟩ => hbmTy i
  | _, _ => ⟨S64x3x448x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v9 : Ref sig .tc := ⟨.hbm, 19, rfl⟩
abbrev main_cst_4 : Ref sig .tc := ⟨.hbm, 20, rfl⟩
abbrev main_v10 : Ref sig .tc := ⟨.hbm, 21, rfl⟩
abbrev main_v11 : Ref sig .tc := ⟨.hbm, 22, rfl⟩
abbrev main_call1_v0 : Ref sig .tc := ⟨.hbm, 23, rfl⟩
abbrev main_v12 : Ref sig .tc := ⟨.hbm, 24, rfl⟩
abbrev main_cst_5 : Ref sig .tc := ⟨.hbm, 25, rfl⟩
abbrev main_v13 : Ref sig .tc := ⟨.hbm, 26, rfl⟩
abbrev main_v14 : Ref sig .tc := ⟨.hbm, 27, rfl⟩
abbrev main_call2_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_7 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_8 : Ref sig .tc := ⟨.hbm, 41, rfl⟩
abbrev main_call3_v0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_9 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_10 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_11 : Ref sig .tc := ⟨.hbm, 55, rfl⟩
abbrev main_call4_v0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_12 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_13 : Ref sig .tc := ⟨.hbm, 69, rfl⟩
abbrev main_v46 : Ref sig .tc := ⟨.hbm, 70, rfl⟩
abbrev main_v47 : Ref sig .tc := ⟨.hbm, 71, rfl⟩
abbrev main_cst_14 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_15 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_16 : Ref sig .tc := ⟨.hbm, 85, rfl⟩
abbrev main_v59 : Ref sig .tc := ⟨.hbm, 86, rfl⟩
abbrev main_v60 : Ref sig .tc := ⟨.hbm, 87, rfl⟩
abbrev main_cst_17 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_18 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_19 : Ref sig .tc := ⟨.hbm, 102, rfl⟩
abbrev main_v73 : Ref sig .tc := ⟨.hbm, 103, rfl⟩
abbrev main_v74 : Ref sig .tc := ⟨.hbm, 104, rfl⟩
abbrev main_cst_20 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_21 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_22 : Ref sig .tc := ⟨.hbm, 118, rfl⟩
abbrev main_v86 : Ref sig .tc := ⟨.hbm, 119, rfl⟩
abbrev main_v87 : Ref sig .tc := ⟨.hbm, 120, rfl⟩
abbrev main_cst_23 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_24 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_25 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_26 : Ref sig .tc := ⟨.hbm, 148, rfl⟩
abbrev main_cst_27 : Ref sig .tc := ⟨.hbm, 149, rfl⟩
abbrev main_call5_v0 : Ref sig .tc := ⟨.hbm, 150, rfl⟩
abbrev main_call5_v1 : Ref sig .tc := ⟨.hbm, 151, rfl⟩
abbrev main_call5_v2 : Ref sig .tc := ⟨.hbm, 152, rfl⟩
abbrev main_call5_v3 : Ref sig .tc := ⟨.hbm, 153, rfl⟩
abbrev main_call5_v4 : Ref sig .tc := ⟨.hbm, 154, rfl⟩
abbrev main_v112 : Ref sig .tc := ⟨.hbm, 155, rfl⟩
abbrev main_v113 : Ref sig .tc := ⟨.hbm, 156, rfl⟩
abbrev main_c : Ref sig .tc := ⟨.hbm, 157, rfl⟩
abbrev main_v114 : Ref sig .tc := ⟨.hbm, 158, rfl⟩
abbrev main_v115 : Ref sig .tc := ⟨.hbm, 159, rfl⟩
abbrev main_c_28 : Ref sig .tc := ⟨.hbm, 160, rfl⟩
abbrev main_c_29 : Ref sig .tc := ⟨.hbm, 161, rfl⟩
abbrev main_call6_v0 : Ref sig .tc := ⟨.hbm, 162, rfl⟩
abbrev main_call6_v1 : Ref sig .tc := ⟨.hbm, 163, rfl⟩
abbrev main_call6_v2 : Ref sig .tc := ⟨.hbm, 164, rfl⟩
abbrev main_call6_v3 : Ref sig .tc := ⟨.hbm, 165, rfl⟩
abbrev main_call6_v4 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_call7_c : Ref sig .tc := ⟨.hbm, 172, rfl⟩
abbrev main_call7_v0 : Ref sig .tc := ⟨.hbm, 173, rfl⟩
abbrev main_call7_v1 : Ref sig .tc := ⟨.hbm, 174, rfl⟩
abbrev main_call7_c_0 : Ref sig .tc := ⟨.hbm, 175, rfl⟩
abbrev main_call7_v2 : Ref sig .tc := ⟨.hbm, 176, rfl⟩
abbrev main_call7_v3 : Ref sig .tc := ⟨.hbm, 177, rfl⟩
abbrev main_call7_v4 : Ref sig .tc := ⟨.hbm, 178, rfl⟩
abbrev main_call7_v5 : Ref sig .tc := ⟨.hbm, 179, rfl⟩
abbrev main_call7_c_1 : Ref sig .tc := ⟨.hbm, 180, rfl⟩
abbrev main_call7_c_2 : Ref sig .tc := ⟨.hbm, 181, rfl⟩
abbrev main_call7_v6 : Ref sig .tc := ⟨.hbm, 182, rfl⟩
abbrev main_call7_v7 : Ref sig .tc := ⟨.hbm, 183, rfl⟩
abbrev main_call7_v8 : Ref sig .tc := ⟨.hbm, 184, rfl⟩
abbrev main_call7_v9 : Ref sig .tc := ⟨.hbm, 185, rfl⟩
abbrev main_call7_v10 : Ref sig .tc := ⟨.hbm, 186, rfl⟩
abbrev main_call7_v11 : Ref sig .tc := ⟨.hbm, 187, rfl⟩
abbrev main_call7_c_3 : Ref sig .tc := ⟨.hbm, 188, rfl⟩
abbrev main_call7_v12 : Ref sig .tc := ⟨.hbm, 189, rfl⟩
abbrev main_call7_v13 : Ref sig .tc := ⟨.hbm, 190, rfl⟩
abbrev main_call7_cst : Ref sig .tc := ⟨.hbm, 191, rfl⟩
abbrev main_call7_v14 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_call8_c : Ref sig .tc := ⟨.hbm, 196, rfl⟩
abbrev main_call8_v0 : Ref sig .tc := ⟨.hbm, 197, rfl⟩
abbrev main_call8_v1 : Ref sig .tc := ⟨.hbm, 198, rfl⟩
abbrev main_call8_c_0 : Ref sig .tc := ⟨.hbm, 199, rfl⟩
abbrev main_call8_v2 : Ref sig .tc := ⟨.hbm, 200, rfl⟩
abbrev main_call8_v3 : Ref sig .tc := ⟨.hbm, 201, rfl⟩
abbrev main_call8_v4 : Ref sig .tc := ⟨.hbm, 202, rfl⟩
abbrev main_call8_v5 : Ref sig .tc := ⟨.hbm, 203, rfl⟩
abbrev main_call8_c_1 : Ref sig .tc := ⟨.hbm, 204, rfl⟩
abbrev main_call8_c_2 : Ref sig .tc := ⟨.hbm, 205, rfl⟩
abbrev main_call8_v6 : Ref sig .tc := ⟨.hbm, 206, rfl⟩
abbrev main_call8_v7 : Ref sig .tc := ⟨.hbm, 207, rfl⟩
abbrev main_call8_v8 : Ref sig .tc := ⟨.hbm, 208, rfl⟩
abbrev main_call8_v9 : Ref sig .tc := ⟨.hbm, 209, rfl⟩
abbrev main_call8_v10 : Ref sig .tc := ⟨.hbm, 210, rfl⟩
abbrev main_call8_v11 : Ref sig .tc := ⟨.hbm, 211, rfl⟩
abbrev main_call8_c_3 : Ref sig .tc := ⟨.hbm, 212, rfl⟩
abbrev main_call8_v12 : Ref sig .tc := ⟨.hbm, 213, rfl⟩
abbrev main_call8_v13 : Ref sig .tc := ⟨.hbm, 214, rfl⟩
abbrev main_call8_cst : Ref sig .tc := ⟨.hbm, 215, rfl⟩
abbrev main_call8_v14 : Ref sig .tc := ⟨.hbm, 216, rfl⟩
abbrev main_v124 : Ref sig .tc := ⟨.hbm, 217, rfl⟩
abbrev main_v125 : Ref sig .tc := ⟨.hbm, 218, rfl⟩
abbrev main_cst_30 : Ref sig .tc := ⟨.hbm, 219, rfl⟩
abbrev main_v126 : Ref sig .tc := ⟨.hbm, 220, rfl⟩
abbrev main_v127 : Ref sig .tc := ⟨.hbm, 221, rfl⟩
abbrev main_v128 : Ref sig .tc := ⟨.hbm, 222, rfl⟩
abbrev main_v129 : Ref sig .tc := ⟨.hbm, 223, rfl⟩
abbrev main_v130 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_v134 : Ref sig .tc := ⟨.hbm, 228, rfl⟩
abbrev main_v135 : Ref sig .tc := ⟨.hbm, 229, rfl⟩
abbrev main_v136 : Ref sig .tc := ⟨.hbm, 230, rfl⟩
abbrev main_v137 : Ref sig .tc := ⟨.hbm, 231, rfl⟩
abbrev main_cst_31 : Ref sig .tc := ⟨.hbm, 232, rfl⟩
abbrev main_v138 : Ref sig .tc := ⟨.hbm, 233, rfl⟩
abbrev main_v139 : Ref sig .tc := ⟨.hbm, 234, rfl⟩
abbrev main_v140 : Ref sig .tc := ⟨.hbm, 235, rfl⟩
abbrev main_v141 : Ref sig .tc := ⟨.hbm, 236, rfl⟩
abbrev main_v142 : Ref sig .tc := ⟨.hbm, 237, rfl⟩
abbrev main_cst_32 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_cst_33 : Ref sig .tc := ⟨.hbm, 244, rfl⟩
abbrev main_cst_34 : Ref sig .tc := ⟨.hbm, 245, rfl⟩
abbrev main_call9_v0 : Ref sig .tc := ⟨.hbm, 246, rfl⟩
abbrev main_call9_v1 : Ref sig .tc := ⟨.hbm, 247, rfl⟩
abbrev main_call9_v2 : Ref sig .tc := ⟨.hbm, 248, rfl⟩
abbrev main_call9_v3 : Ref sig .tc := ⟨.hbm, 249, rfl⟩
abbrev main_call9_v4 : Ref sig .tc := ⟨.hbm, 250, rfl⟩
abbrev main_v148 : Ref sig .tc := ⟨.hbm, 251, rfl⟩
abbrev main_v149 : Ref sig .tc := ⟨.hbm, 252, rfl⟩
abbrev main_c_35 : Ref sig .tc := ⟨.hbm, 253, rfl⟩
abbrev main_v150 : Ref sig .tc := ⟨.hbm, 254, rfl⟩
abbrev main_v151 : Ref sig .tc := ⟨.hbm, 255, rfl⟩
abbrev main_c_36 : Ref sig .tc := ⟨.hbm, 256, rfl⟩
abbrev main_c_37 : Ref sig .tc := ⟨.hbm, 257, rfl⟩
abbrev main_call10_v0 : Ref sig .tc := ⟨.hbm, 258, rfl⟩
abbrev main_call10_v1 : Ref sig .tc := ⟨.hbm, 259, rfl⟩
abbrev main_call10_v2 : Ref sig .tc := ⟨.hbm, 260, rfl⟩
abbrev main_call10_v3 : Ref sig .tc := ⟨.hbm, 261, rfl⟩
abbrev main_call10_v4 : Ref sig .tc := ⟨.hbm, 262, rfl⟩
abbrev main_v152 : Ref sig .tc := ⟨.hbm, 263, rfl⟩
abbrev main_v153 : Ref sig .tc := ⟨.hbm, 264, rfl⟩
abbrev main_v154 : Ref sig .tc := ⟨.hbm, 265, rfl⟩
abbrev main_v155 : Ref sig .tc := ⟨.hbm, 266, rfl⟩
abbrev main_v156 : Ref sig .tc := ⟨.hbm, 267, rfl⟩
abbrev main_call11_c : Ref sig .tc := ⟨.hbm, 268, rfl⟩
abbrev main_call11_v0 : Ref sig .tc := ⟨.hbm, 269, rfl⟩
abbrev main_call11_v1 : Ref sig .tc := ⟨.hbm, 270, rfl⟩
abbrev main_call11_c_0 : Ref sig .tc := ⟨.hbm, 271, rfl⟩
abbrev main_call11_v2 : Ref sig .tc := ⟨.hbm, 272, rfl⟩
abbrev main_call11_v3 : Ref sig .tc := ⟨.hbm, 273, rfl⟩
abbrev main_call11_v4 : Ref sig .tc := ⟨.hbm, 274, rfl⟩
abbrev main_call11_v5 : Ref sig .tc := ⟨.hbm, 275, rfl⟩
abbrev main_call11_c_1 : Ref sig .tc := ⟨.hbm, 276, rfl⟩
abbrev main_call11_c_2 : Ref sig .tc := ⟨.hbm, 277, rfl⟩
abbrev main_call11_v6 : Ref sig .tc := ⟨.hbm, 278, rfl⟩
abbrev main_call11_v7 : Ref sig .tc := ⟨.hbm, 279, rfl⟩
abbrev main_call11_v8 : Ref sig .tc := ⟨.hbm, 280, rfl⟩
abbrev main_call11_v9 : Ref sig .tc := ⟨.hbm, 281, rfl⟩
abbrev main_call11_v10 : Ref sig .tc := ⟨.hbm, 282, rfl⟩
abbrev main_call11_v11 : Ref sig .tc := ⟨.hbm, 283, rfl⟩
abbrev main_call11_c_3 : Ref sig .tc := ⟨.hbm, 284, rfl⟩
abbrev main_call11_v12 : Ref sig .tc := ⟨.hbm, 285, rfl⟩
abbrev main_call11_v13 : Ref sig .tc := ⟨.hbm, 286, rfl⟩
abbrev main_call11_cst : Ref sig .tc := ⟨.hbm, 287, rfl⟩
abbrev main_call11_v14 : Ref sig .tc := ⟨.hbm, 288, rfl⟩
abbrev main_v157 : Ref sig .tc := ⟨.hbm, 289, rfl⟩
abbrev main_v158 : Ref sig .tc := ⟨.hbm, 290, rfl⟩
abbrev main_v159 : Ref sig .tc := ⟨.hbm, 291, rfl⟩
abbrev main_call12_c : Ref sig .tc := ⟨.hbm, 292, rfl⟩
abbrev main_call12_v0 : Ref sig .tc := ⟨.hbm, 293, rfl⟩
abbrev main_call12_v1 : Ref sig .tc := ⟨.hbm, 294, rfl⟩
abbrev main_call12_c_0 : Ref sig .tc := ⟨.hbm, 295, rfl⟩
abbrev main_call12_v2 : Ref sig .tc := ⟨.hbm, 296, rfl⟩
abbrev main_call12_v3 : Ref sig .tc := ⟨.hbm, 297, rfl⟩
abbrev main_call12_v4 : Ref sig .tc := ⟨.hbm, 298, rfl⟩
abbrev main_call12_v5 : Ref sig .tc := ⟨.hbm, 299, rfl⟩
abbrev main_call12_c_1 : Ref sig .tc := ⟨.hbm, 300, rfl⟩
abbrev main_call12_c_2 : Ref sig .tc := ⟨.hbm, 301, rfl⟩
abbrev main_call12_v6 : Ref sig .tc := ⟨.hbm, 302, rfl⟩
abbrev main_call12_v7 : Ref sig .tc := ⟨.hbm, 303, rfl⟩
abbrev main_call12_v8 : Ref sig .tc := ⟨.hbm, 304, rfl⟩
abbrev main_call12_v9 : Ref sig .tc := ⟨.hbm, 305, rfl⟩
abbrev main_call12_v10 : Ref sig .tc := ⟨.hbm, 306, rfl⟩
abbrev main_call12_v11 : Ref sig .tc := ⟨.hbm, 307, rfl⟩
abbrev main_call12_c_3 : Ref sig .tc := ⟨.hbm, 308, rfl⟩
abbrev main_call12_v12 : Ref sig .tc := ⟨.hbm, 309, rfl⟩
abbrev main_call12_v13 : Ref sig .tc := ⟨.hbm, 310, rfl⟩
abbrev main_call12_cst : Ref sig .tc := ⟨.hbm, 311, rfl⟩
abbrev main_call12_v14 : Ref sig .tc := ⟨.hbm, 312, rfl⟩
abbrev main_v160 : Ref sig .tc := ⟨.hbm, 313, rfl⟩
abbrev main_v161 : Ref sig .tc := ⟨.hbm, 314, rfl⟩
abbrev main_cst_38 : Ref sig .tc := ⟨.hbm, 315, rfl⟩
abbrev main_v162 : Ref sig .tc := ⟨.hbm, 316, rfl⟩
abbrev main_v163 : Ref sig .tc := ⟨.hbm, 317, rfl⟩
abbrev main_v164 : Ref sig .tc := ⟨.hbm, 318, rfl⟩
abbrev main_v165 : Ref sig .tc := ⟨.hbm, 319, rfl⟩
abbrev main_v166 : Ref sig .tc := ⟨.hbm, 320, rfl⟩
abbrev main_v167 : Ref sig .tc := ⟨.hbm, 321, rfl⟩
abbrev main_v168 : Ref sig .tc := ⟨.hbm, 322, rfl⟩

abbrev nD : Nat := 1
abbrev τ : Topo := Topo.v7x

variable {F : FTy → Type} [FloatOps F]
-- ==== Proof.Sample.lean ====
/- One sample of the kernel's body as one function of its three scalars and its image: the scalars of the crop
   (`side`, `centre`, `lo`, `hi`), the weight matrix of an axis (`weights`), the image resampled along its columns
   (`columns`) and a channel of the result (`channel`). Every operation is the one the kernel runs, in its order. -/
module

public import proofs.«01_k».proof.Proof.Gen.KernelIdeal.Value

@[expose] public section

noncomputable section

namespace Cert.KernelIdeal.Sample

open Cert.KernelIdeal Cert.KernelIdeal.Gen Idealize.ShloMosaic Idealize.ShloMosaic.TcCoe Idealize.SL.Sem

variable {F : FTy → Type} [FloatOps F]

/-! ## The crop's scalars -/

/-- Half the crop's side: `l` clipped to `[448 / 3, 448 * 2 / 3]`. -/
def side (l : F .f32) : F .f32 :=
  Scalar.minimumf (Scalar.divf (Scalar.mulf (Scalar.ofBits .f32 0x43E00000#32) (Scalar.ofBits .f32 0x40000000#32)) (Scalar.ofBits .f32 0x40400000#32))
    (Scalar.maximumf (Scalar.divf (Scalar.ofBits .f32 0x43E00000#32) (Scalar.ofBits .f32 0x40400000#32)) l)

/-- The crop's centre on an axis: `t` clipped to `[side l, 448 - side l]`. -/
def centre (t l : F .f32) : F .f32 :=
  Scalar.minimumf (Scalar.subf (Scalar.ofBits .f32 0x43E00000#32) (side l)) (Scalar.maximumf (side l) t)

/-- Where the crop begins on an axis. -/
def lo (t l : F .f32) : F .f32 :=
  Scalar.maximumf (Scalar.floor (Scalar.subf (centre t l) (side l))) (Scalar.ofBits .f32 0x00000000#32)

/-- Where the crop ends on an axis. -/
def hi (t l : F .f32) : F .f32 :=
  Scalar.select (Scalar.cmpf .olt (Scalar.addf (centre t l) (side l)) (Scalar.ofBits .f32 0x43E00000#32))
    (Scalar.floor (Scalar.addf (centre t l) (side l))) (Scalar.ofBits .f32 0x43E00000#32)

/-! ## The weights of an axis -/

/-- The source coordinate of each of the 224 outputs of the crop from `a` to `e`. -/
def src (a e : F .f32) : FVec F S1x224 .f32 :=
  addf (broadcast S1x224 a)
    (divf (mulf (sitofp .f32 (iota .tc S1x224 32 [1] iota_S1x224_d1_w32))
        (broadcast S1x224 (Scalar.subf (Scalar.subf e a) (Scalar.ofBits .f32 0x3F800000#32))))
      (broadcast S1x224 (Scalar.ofBits .f32 0x435F0000#32)))

/-- The lower neighbour of each source coordinate. -/
def below (a e : F .f32) : FVec F S1x224 .f32 :=
  minimumf (broadcast S1x224 (Scalar.subf (Scalar.ofBits .f32 0x43E00000#32) (Scalar.ofBits .f32 0x3F800000#32)))
    (maximumf (broadcast S1x224 (Scalar.ofBits .f32 0x00000000#32)) (floor (src a e)))

/-- The upper neighbour of each source coordinate. -/
def above (a e : F .f32) : FVec F S1x224 .f32 :=
  minimumf (addf (below a e) (broadcast S1x224 (Scalar.ofBits .f32 0x3F800000#32)))
    (broadcast S1x224 (Scalar.subf (Scalar.ofBits .f32 0x43E00000#32) (Scalar.ofBits .f32 0x3F800000#32)))

/-- The source coordinate's distance from its lower neighbour. -/
def frac (a e : F .f32) : FVec F S1x224 .f32 := subf (src a e) (below a e)

/-- The soft mask of the crop from `a` to `e` at the coordinates `x`. -/
def maskAt (a e : F .f32) (x : FVec F S1x224 .f32) : FVec F S1x224 .f32 :=
  subf (logistic (mulf (broadcast S1x224 (Scalar.ofBits .f32 0x41200000#32)) (subf x (broadcast S1x224 a))))
    (logistic (mulf (broadcast S1x224 (Scalar.ofBits .f32 0x41200000#32)) (subf x (broadcast S1x224 e))))

/-- The row `w` of weights placed where the row number is the neighbour `x`, zero elsewhere. -/
def place (x w : FVec F S1x224 .f32) : FVec F S448x224 .f32 :=
  select (cmpi .eq (iota .tc S448x224 32 [0] iota_S448x224_d0_w32)
      (broadcastTo S448x224 (fptosi 32 x) broadcasts_S1x224_S448x224))
    (broadcastTo S448x224 (shapeCast S1x224 w shapeCasts_S1x224_S1x224) broadcasts_S1x224_S448x224)
    (broadcast S448x224 (Scalar.ofBits .f32 0x00000000#32))

/-- The weight of input row `s` in output row `r`, at `(s, r)`: interpolation times mask. -/
def weights (a e : F .f32) : FVec F S448x224 .bf16 :=
  truncf .bf16 (addf
    (place (below a e) (mulf (subf (broadcast S1x224 (Scalar.ofBits .f32 0x3F800000#32)) (frac a e)) (maskAt a e (below a e))))
    (place (above a e) (mulf (frac a e) (maskAt a e (above a e))))) bitsLt_bf16_f32

/-! ## The two products -/

/-- The image's three channels stacked, each row resampled along the columns. -/
def columns (img : Vec F S1x1344x448 .f32) (w : FVec F S448x224 .bf16) : FVec F S1344x224 .bf16 :=
  truncf .bf16 (matmul dot_S1344x448_S448x224_S1344x224_1_0_0_1_n_n none
    (truncf .bf16 (shapeCast S1344x448 img shapeCasts_S1x1344x448_S1344x448) bitsLt_bf16_f32) w
    (constant S1344x224 .f32 0x00000000#32)) bitsLt_bf16_f32

theorem slices_channel (c : Fin 3) : S1344x224.Slices ![c.val * 448, 0] S448x224 := by revert c; decide

/-- Channel `c` of the result: the channel's rows of `y`, resampled along the rows. -/
def channel (wx : FVec F S448x224 .bf16) (y : FVec F S1344x224 .bf16) (c : Fin 3) : FVec F S224x224 .f32 :=
  matmul dot_S448x224_S448x224_S224x224_0_0_1_1_n_n none wx
    (extractStridedSlice S448x224 ![c.val * 448, 0] y (slices_channel c)) (constant S224x224 .f32 0x00000000#32)

/-- What the kernel stores for one sample's channel `c`. -/
def sample (tx ty tl : F .f32) (img : Vec F S1x1344x448 .f32) (c : Fin 3) : FVec F S1x1x224x224 .f32 :=
  shapeCast S1x1x224x224 (channel (weights (lo tx tl) (hi tx tl)) (columns img (weights (lo ty tl) (hi ty tl))) c)
    shapeCasts_S224x224_S1x1x224x224

/-! ## The body's stores -/

theorem slot_inb (k : Fin 8) : ∀ a, (![k.val % 4, 0, 0] : Fin 3 → Nat) a + S1x1344x448.size a ≤ S4x1344x448.size a := by
  revert k; decide

theorem store_inb (k : Fin 8) (c : Fin 3) :
    ∀ a, (![k.val, c.val, 0, 0] : Fin 4 → Nat) a + S1x1x224x224.size a ≤ S8x3x224x224.size a := by
  revert k c; decide

/-- Sample `k`'s image as the body loads it: from the first image window for `k < 4`, from the second after. -/
def image (arg2 arg3 : Memref sig .tc .vmem S4x1344x448 .f32) (harg2 : arg2.IsWhole) (harg3 : arg3.IsWhole)
    (x1 x2 : Vec F S4x1344x448 .f32) (k : Fin 8) : Vec F S1x1344x448 .f32 :=
  if k.val < 4 then View.readAt (Elt F) arg2.view (Rect.unit (s := S4x1344x448) ![k.val % 4, 0, 0] S1x1344x448.size (slot_inb k)).toLoadRect (harg2.unread x1)
  else View.readAt (Elt F) arg3.view (Rect.unit (s := S4x1344x448) ![k.val % 4, 0, 0] S1x1344x448.size (slot_inb k)).toLoadRect (harg3.unread x2)

/-- The scalar the body loads from the table of locations at the offsets `off`. -/
def scalar (arg1 : Memref sig .tc .smem S64x3 .f32) (harg1 : arg1.IsWhole) (x0 : Vec F S64x3 .f32)
    (off : Fin 2 → Nat) (inb : ∀ a, off a + S1x1.size a ≤ S64x3.size a) : F .f32 :=
  View.readAt (Elt F) arg1.view (Rect.unit (s := S64x3) off S1x1.size inb).toLoadRect (harg1.unread x0)
    (Shape.Idx.first (show 0 < S1x1.numel by decide))

/-- Store `n` of the 24, latest first, is of sample `7 - n / 3` and channel `2 - n % 3`. -/
def sampleOf (n : Fin 24) : Fin 8 := ⟨7 - n.val / 3, by omega⟩
def channelOf (n : Fin 24) : Fin 3 := ⟨2 - n.val % 3, by omega⟩

set_option maxRecDepth 20000 in
set_option maxHeartbeats 8000000 in
/-- The body's 24 stores, latest first: store `n` writes `sample` of its sample's scalars and image. -/
theorem stores (c : Dev nD) (i : grid0.Coords) (arg1 : Memref sig .tc .smem S64x3 .f32) (harg1 : arg1.IsWhole)
    (arg2 : Memref sig .tc .vmem S4x1344x448 .f32) (harg2 : arg2.IsWhole)
    (arg3 : Memref sig .tc .vmem S4x1344x448 .f32) (harg3 : arg3.IsWhole)
    (arg4 : Memref sig .tc .vmem S8x3x224x224 .f32) (harg4 : arg4.IsWhole)
    (x0 : Vec F S64x3 .f32) (x1 x2 : Vec F S4x1344x448 .f32) :
    (kernelRun0_A c i arg1 harg1 arg2 harg2 arg3 harg3 arg4 harg4 x0 x1 x2).1
      = List.ofFn fun n : Fin 24 => (⟨Rect.unit ![(sampleOf n).val, (channelOf n).val, 0, 0] S1x1x224x224.size (store_inb (sampleOf n) (channelOf n)),
          sample
            (scalar arg1 harg1 x0 (k0_off1 i (BitVec.ofNat 32 (sampleOf n).val)) (k0_off1_inb i (sampleOf n)))
            (scalar arg1 harg1 x0 (k0_off2 i (BitVec.ofNat 32 (sampleOf n).val)) (k0_off2_inb i (sampleOf n)))
            (scalar arg1 harg1 x0 (k0_off3 i (BitVec.ofNat 32 (sampleOf n).val)) (k0_off3_inb i (sampleOf n)))
            (image arg2 arg3 harg2 harg3 x1 x2 (sampleOf n)) (channelOf n)⟩ : View.Piece (Elt F) S8x3x224x224 .f32) := by
  unfold kernelRun0_A
  rfl

end Cert.KernelIdeal.Sample

end
-- ==== Proof.Block.lean ====
/- What one grid point leaves in the output's block, at an index: the channel of the sample the index names, resampled
   by the weights of that sample's crop. -/
module

public import proofs.«01_k».proof.Proof.Sample
public import Idealize.ShloMosaic.Lib.Pipeline.ValueKit

@[expose] public section

noncomputable section

namespace Cert.KernelIdeal.Block

open Cert.KernelIdeal Cert.KernelIdeal.Gen Idealize.ShloMosaic Idealize.ShloMosaic.TcCoe Idealize.SL.Sem
open Cert.KernelIdeal.Sample

variable {F : FTy → Type} [FloatOps F]

theorem row_lt (i : grid0.Coords) (k : Fin 8) : 8 * (i 0).val + k.val < 64 := by
  have h : (i 0).val < 8 := (i 0).isLt
  omega

/-- The row of the table of locations that sample `k` of grid point `i` uses. -/
def row (i : grid0.Coords) (k : Fin 8) : Fin 64 := ⟨8 * (i 0).val + k.val, row_lt i k⟩

/-- Sample `k`'s image: slot `k % 4` of the first image block for `k < 4`, of the second after. -/
def slot (x1 x2 : Vec F S4x1344x448 .f32) (k : Fin 8) : Vec F S1x1344x448 .f32 := fun j =>
  (if k.val < 4 then x1 else x2) (ix3 ⟨k.val % 4, Nat.mod_lt _ (by decide)⟩ (j 1) (j 2))

/-- The body's load of a sample's image is the sample's slot. -/
theorem image_eq (arg2 arg3 : Memref sig .tc .vmem S4x1344x448 .f32) (harg2 : arg2.IsWhole) (harg3 : arg3.IsWhole)
    (x1 x2 : Vec F S4x1344x448 .f32) (k : Fin 8) : image arg2 arg3 harg2 harg3 x1 x2 k = slot x1 x2 k := by
  funext j
  have hj : (j 0).val = 0 := by have h : (j 0).val < 1 := (j 0).isLt; omega
  unfold image slot
  split <;> rw [View.readAt_eq_ld] <;>
  · first | rw [harg2.read_unread] | rw [harg3.read_unread]
    refine View.ld_unit_apply_of (S := S4x1344x448) _ ![k.val % 4, 0, 0] S1x1344x448.size (slot_inb k) j _ fun a => ?_
    fin_cases a
    · show k.val % 4 = k.val % 4 + (j 0).val
      omega
    · show (j 1).val = 0 + (j 1).val
      omega
    · show (j 2).val = 0 + (j 2).val
      omega

/-- The body's load of a scalar at row `r` and column `q` is the table's entry there. -/
theorem scalar_eq (arg1 : Memref sig .tc .smem S64x3 .f32) (harg1 : arg1.IsWhole) (x0 : Vec F S64x3 .f32)
    (off : Fin 2 → Nat) (inb : ∀ a, off a + S1x1.size a ≤ S64x3.size a) (r : Fin 64) (q : Fin 3)
    (h : off = ![r.val, q.val]) : scalar arg1 harg1 x0 off inb = x0 (ix2 r q) := by
  subst h
  unfold scalar
  rw [View.readAt_eq_ld, harg1.read_unread]
  refine View.ld_unit_apply_of _ _ _ _ _ _ fun a => ?_
  fin_cases a <;> rfl

/-- The store of sample `k` and channel `c` is one of the 24. -/
theorem exists_store (k : Fin 8) (c : Fin 3) : ∃ n : Fin 24, sampleOf n = k ∧ channelOf n = c :=
  ⟨⟨(7 - k.val) * 3 + (2 - c.val), by omega⟩, Fin.ext (by show 7 - ((7 - k.val) * 3 + (2 - c.val)) / 3 = k.val; omega), Fin.ext (by show 2 - ((7 - k.val) * 3 + (2 - c.val)) % 3 = c.val; omega)⟩

/-- The output's block after the body, at sample `k`, channel `c`, row `r` and column `q`. -/
theorem out_apply (c : Dev nD) (i : grid0.Coords) (arg1 : Memref sig .tc .smem S64x3 .f32) (harg1 : arg1.IsWhole)
    (arg2 : Memref sig .tc .vmem S4x1344x448 .f32) (harg2 : arg2.IsWhole)
    (arg3 : Memref sig .tc .vmem S4x1344x448 .f32) (harg3 : arg3.IsWhole)
    (arg4 : Memref sig .tc .vmem S8x3x224x224 .f32) (harg4 : arg4.IsWhole)
    (x0 : Vec F S64x3 .f32) (x1 x2 : Vec F S4x1344x448 .f32) (k : Fin 8) (ch : Fin 3) (r q : Fin 224) :
    out0_A_3 c i arg1 harg1 arg2 harg2 arg3 harg3 arg4 harg4 x0 x1 x2 (ix4 k ch r q)
      = sample (x0 (ix2 (row i k) 0)) (x0 (ix2 (row i k) 1)) (x0 (ix2 (row i k) 2)) (slot x1 x2 k) ch (ix4 0 0 r q) := by
  unfold out0_A_3
  rw [View.read_writes_eq_canon _ _ _ (cover0_A_3 c i arg1 harg1 arg2 harg2 arg3 harg3 arg4 harg4 x0 x1 x2), stores]
  refine View.canon_ofFn_unit_eq_of_forall (S := S8x3x224x224) (fun n : Fin 24 => ![(sampleOf n).val, (channelOf n).val, 0, 0])
    S1x1x224x224.size (fun n => store_inb (sampleOf n) (channelOf n)) _ _ _ ?_ ?_
  · obtain ⟨n, hk, hc⟩ := exists_store k ch
    refine ⟨n, fun a => ?_⟩
    rw [hk, hc]
    fin_cases a
    · exact ⟨le_refl _, Nat.lt_succ_self _⟩
    · exact ⟨le_refl _, Nat.lt_succ_self _⟩
    · exact ⟨Nat.zero_le _, by show r.val < 0 + 224; omega⟩
    · exact ⟨Nat.zero_le _, by show q.val < 0 + 224; omega⟩
  · intro n x hx
    have h0 : k.val = (sampleOf n).val + (x 0).val := hx 0
    have h1 : ch.val = (channelOf n).val + (x 1).val := hx 1
    have h2 : r.val = 0 + (x 2).val := hx 2
    have h3 : q.val = 0 + (x 3).val := hx 3
    have b0 : (x 0).val < 1 := (x 0).isLt
    have b1 : (x 1).val < 1 := (x 1).isLt
    have hk : sampleOf n = k := Fin.ext (by omega)
    have hc : channelOf n = ch := Fin.ext (by omega)
    have hxe : x = ix4 0 0 r q := by
      funext a
      refine Fin.ext ?_
      fin_cases a
      · show (x 0).val = 0
        omega
      · show (x 1).val = 0
        omega
      · show (x 2).val = r.val
        omega
      · show (x 3).val = q.val
        omega
    rw [hk, hc, hxe, image_eq,
      scalar_eq _ _ _ _ _ (row i k) 0 (k0_off1_eq i k), scalar_eq _ _ _ _ _ (row i k) 1 (k0_off2_eq i k),
      scalar_eq _ _ _ _ _ (row i k) 2 (k0_off3_eq i k)]

end Cert.KernelIdeal.Block

end
-- ==== Proof.Array.lean ====
/- What the output array holds after the kernel's run, as one function of the images and the table of locations. -/
module

public import proofs.«01_k».proof.Proof.Block
public import Idealize.ShloMosaic.Lib.Pipeline.ValueKit

@[expose] public section

noncomputable section

namespace Cert.KernelIdeal.Array

open Cert.KernelIdeal Cert.KernelIdeal.Gen Idealize.ShloMosaic Idealize.ShloMosaic.TcCoe Idealize.SL.Sem
open Cert.KernelIdeal.Sample Cert.KernelIdeal.Block
open Idealize.ShloMosaic.Pipeline (Dat)

variable {F : FTy → Type} [FloatOps F]

/-- The images with each one's three channels stacked. -/
def stacked (images : FVec F S64x3x448x448 .f32) : FVec F S64x1344x448 .f32 :=
  shapeCast S64x1344x448 images shapeCasts_S64x3x448x448_S64x1344x448

/-- Image `b`, its three channels stacked. -/
def picture (images : FVec F S64x3x448x448 .f32) (b : Fin 64) : Vec F S1x1344x448 .f32 := fun j =>
  stacked images (ix3 b (j 1) (j 2))

/-- The output at every index: the sample's channel resampled by the weights of the sample's crop. -/
def result (images : FVec F S64x3x448x448 .f32) (locs : FVec F S64x3 .f32) : FVec F S64x3x224x224 .f32 := fun j =>
  sample (locs (ix2 (j 0) 0)) (locs (ix2 (j 0) 1)) (locs (ix2 (j 0) 2)) (picture images (j 0)) (j 1) (ix4 0 0 (j 2) (j 3))

variable (m : (ℓ : Loc nD τ sig) → Buf (Elt F) ℓ)

/-- Where each window's block begins at each grid point, in blocks. -/
theorem places : ∀ t : Fin grid0.N, win0_0.index t = ![0, 0] ∧ win0_1.index t = ![2 * t.val, 0, 0]
    ∧ win0_2.index t = ![2 * t.val + 1, 0, 0] ∧ win0_3.index t = ![t.val, 0, 0, 0] ∧ (grid0.coords t 0).val = t.val := by
  decide +kernel

/-- The region finds the stacked images in the array of the two image windows. -/
theorem V_images (c : Dev nD) : V m c main_v0 = stacked (m ((c : Thread nD τ).loc main_arg0)) := by
  entry_read
  rfl

theorem locs_apply (c : Dev nD) (t : Fin cfg0.N) (r : Fin 64) (q : Fin 3) :
    iblk m c 0 t (ix2 r q) = m ((c : Thread nD τ).loc main_arg1) (ix2 r q) := by
  blk_ext [iblk, V_main_arg1, places]

/-- Sample `k`'s slot of the image blocks of grid point `t` is the picture of the sample's image. -/
theorem slot_apply (c : Dev nD) (t : Fin cfg0.N) (k : Fin 8) :
    slot (iblk m c 1 t) (iblk m c 2 t) k = picture (m ((c : Thread nD τ).loc main_arg0)) (row (grid0.coords t) k) := by
  have ht := (places t).2.2.2.2
  funext j
  unfold slot picture
  rw [← V_images m c]
  split
  · show iblk m c 1 t _ = _
    have hb : (row (grid0.coords t) k).val = 8 * t.val + k.val := by show 8 * (grid0.coords t 0).val + _ = _; rw [ht]
    blk_ext [iblk, places]
  · show iblk m c 2 t _ = _
    have hb : (row (grid0.coords t) k).val = 8 * t.val + k.val := by show 8 * (grid0.coords t 0).val + _ = _; rw [ht]
    blk_ext [iblk, places]

/-- The output's block after grid point `t`, at an index. -/
theorem outs_apply (c : Dev nD) (t : Fin cfg0.N) (k : Fin 8) (ch : Fin 3) (r q : Fin 224) :
    outsAt0 m c t (ix4 k ch r q) = result (m ((c : Thread nD τ).loc main_arg0)) (m ((c : Thread nD τ).loc main_arg1))
      (ix4 (row (grid0.coords t) k) ch r q) := by
  unfold outsAt0
  rw [out_apply, slot_apply, locs_apply, locs_apply, locs_apply]
  rfl

/-- The output array after the run. -/
theorem final (c : Dev nD) :
    (Gen.dats m 0 c).arrAt 3 cfg0.N = result (m ((c : Thread nD τ).loc main_arg0)) (m ((c : Thread nD τ).loc main_arg1)) := by
  refine (Gen.dats m 0 c).arrAt_eq_of_covers 3 _ (by decide +kernel) fun t hf y => ?_
  blk_simp
  rw [after0_3]
  have he : (win0_3.blk t).view.emb y = ix4 (row (grid0.coords t) (y 0)) (y 1) (y 2) (y 3) := by
    blk_ext [places, row]
  rw [he]
  exact (congrArg (outsAt0 m c t) (eq_ix4 (y : S8x3x224x224.Idx))).trans (outs_apply m c t (y 0) (y 1) (y 2) (y 3))

end Cert.KernelIdeal.Array

end
-- ==== Proof.Plain.lean ====
/- The reference as a few functions of the images and the table of locations: where the crop of an axis begins and ends,
   the soft mask of an axis, the neighbours of a source coordinate, an axis resampled between its two neighbours.
   Every operation is the one the reference runs, in its order. -/
module

public import proofs.«01_k».proof.Proof.Gen.ReferenceIdeal.Read

@[expose] public section

noncomputable section

namespace Cert.ReferenceIdeal.Plain

open Cert.ReferenceIdeal Cert.ReferenceIdeal.Gen Cert.ReferenceIdeal.Read Idealize.ShloMosaic Idealize.ShloMosaic.TcCoe Idealize.SL.Sem

variable {F : FTy → Type} [FloatOps F]

/-! ## The crop -/

/-- The number `bits`, for each of the 64 samples. -/
def each (bits : BitVec 32) : FVec F S64 .f32 := broadcastInDim S64 ![] bcast_S_S64 (constant S_ .f32 bits)

/-- Half of each crop's side. -/
def side (l : FVec F S64 .f32) : FVec F S64 .f32 :=
  minimumf (broadcastInDim S64 ![] bcast_S_S64 (Host.divf (mulf (constant S_ .f32 0x43E00000#32) (constant S_ .f32 0x40000000#32)) (constant S_ .f32 0x40400000#32)))
    (maximumf (broadcastInDim S64 ![] bcast_S_S64 (Host.divf (constant S_ .f32 0x43E00000#32) (constant S_ .f32 0x40400000#32))) l)

/-- Each crop's centre on an axis. -/
def centre (t l : FVec F S64 .f32) : FVec F S64 .f32 :=
  minimumf (subf (each 0x43E00000#32) (side l)) (maximumf (side l) t)

/-- Where each crop begins on an axis. -/
def start (t l : FVec F S64 .f32) : FVec F S64 .f32 :=
  maximumf (Host.floor (subf (centre t l) (side l))) (each 0x00000000#32)

/-- Where each crop ends on an axis. -/
def stop (t l : FVec F S64 .f32) : FVec F S64 .f32 :=
  select (cmpf .olt (addf (centre t l) (side l)) (each 0x43E00000#32)) (Host.floor (addf (centre t l) (side l))) (each 0x43E00000#32)

/-- A column of the table of locations. -/
def column (x1 : FVec F S64x3 .f32) (q : Fin 3) : FVec F S64 .f32 :=
  match q with
  | 0 => shapeCast S64 (extractStridedSlice S64x1 ![0, 0] x1 slices_S64x3_S64x1_0_0) shapeCasts_S64x1_S64
  | 1 => shapeCast S64 (extractStridedSlice S64x1 ![0, 1] x1 slices_S64x3_S64x1_0_1) shapeCasts_S64x1_S64
  | 2 => shapeCast S64 (extractStridedSlice S64x1 ![0, 2] x1 slices_S64x3_S64x1_0_2) shapeCasts_S64x1_S64

/-! ## The soft mask -/

/-- The logistic function of ten times the distance of each of the 448 coordinates from `c`. -/
def steep (c : FVec F S64 .f32) : FVec F S64x448 .f32 :=
  Host.divf (broadcastInDim S64x448 ![] bcast_S_S64x448 (constant S_ .f32 0x3F800000#32))
    (addf (broadcastInDim S64x448 ![] bcast_S_S64x448 (constant S_ .f32 0x3F800000#32))
      (Host.exp (Host.negf (mulf (broadcastInDim S64x448 ![] bcast_S_S64x448 (constant S_ .f32 0x41200000#32))
        (subf (broadcastInDim S64x448 ![0, 1] bcast_S1x448_S64x448_0_1
            (broadcastInDim S1x448 ![1] bcast_S448_S1x448_1 (sitofp .f32 (iotaInDim S448 32 0))))
          (broadcastInDim S64x448 ![0, 1] bcast_S64x1_S64x448_0_1 (broadcastInDim S64x1 ![0] bcast_S64_S64x1_0 c)))))))

/-- The soft mask of an axis for the crops from `a` to `e`. -/
def mask (a e : FVec F S64 .f32) : FVec F S64x448 .f32 := subf (steep a) (steep e)

/-- The images times the masks of their rows and of their columns. -/
def masked (x0 : FVec F S64x3x448x448 .f32) (rows cols : FVec F S64x448 .f32) : FVec F S64x3x448x448 .f32 :=
  mulf (mulf x0 (broadcastInDim S64x3x448x448 ![0, 1, 2, 3] bcast_S64x1x448x1_S64x3x448x448_0_1_2_3
      (broadcastInDim S64x1x448x1 ![0, 2] bcast_S64x448_S64x1x448x1_0_2 rows)))
    (broadcastInDim S64x3x448x448 ![0, 1, 2, 3] bcast_S64x1x1x448_S64x3x448x448_0_1_2_3
      (broadcastInDim S64x1x1x448 ![0, 3] bcast_S64x448_S64x1x1x448_0_3 cols))

/-! ## The neighbours of a source coordinate -/

/-- The source coordinate of each of the 224 outputs. -/
def source (a e : FVec F S64 .f32) : FVec F S64x224 .f32 :=
  addf (broadcastInDim S64x224 ![0, 1] bcast_S64x1_S64x224_0_1 (broadcastInDim S64x1 ![0] bcast_S64_S64x1_0 a))
    (Host.divf (mulf (broadcastInDim S64x224 ![0, 1] bcast_S1x224_S64x224_0_1
          (broadcastInDim S1x224 ![1] bcast_S224_S1x224_1 (sitofp .f32 (iotaInDim S224 32 0))))
        (broadcastInDim S64x224 ![0, 1] bcast_S64x1_S64x224_0_1
          (subf (broadcastInDim S64x1 ![0] bcast_S64_S64x1_0 (subf e a))
            (broadcastInDim S64x1 ![] bcast_S_S64x1 (constant S_ .f32 0x3F800000#32)))))
      (broadcastInDim S64x224 ![] bcast_S_S64x224 (constant S_ .f32 0x435F0000#32)))

/-- The lower neighbour. -/
def below (a e : FVec F S64 .f32) : IVec S64x224 32 :=
  fptosi 32 (minimumf (broadcastInDim S64x224 ![] bcast_S_S64x224 (constant S_ .f32 0x43DF8000#32))
    (maximumf (broadcastInDim S64x224 ![] bcast_S_S64x224 (constant S_ .f32 0x00000000#32)) (Host.floor (source a e))))

/-- The upper neighbour. -/
def above (a e : FVec F S64 .f32) : IVec S64x224 32 :=
  minsi (broadcastInDim S64x224 ![] bcast_S_S64x224 (constantI S_ 32 447#32))
    (maxsi (broadcastInDim S64x224 ![] bcast_S_S64x224 (constantI S_ 32 0#32))
      (addi (below a e) (broadcastInDim S64x224 ![] bcast_S_S64x224 (constantI S_ 32 1#32))))

/-- The distance from the lower neighbour. -/
def frac (a e : FVec F S64 .f32) : FVec F S64x224 .f32 := subf (source a e) (sitofp .f32 (below a e))

/-! ## An axis resampled -/

/-- The row each element of the result is taken from, a negative one counted from the end. -/
def rowAt (i : IVec S64x224 32) : IVec S64x3x224x448x1 32 :=
  let j : IVec S64x3x224x448 32 := broadcastInDim S64x3x224x448 ![0, 1, 2, 3] bcast_S64x1x224x1_S64x3x224x448_0_1_2_3
    (shapeCast S64x1x224x1 i shapeCasts_S64x224_S64x1x224x1)
  shapeCast S64x3x224x448x1
    (select (cmpi .slt j (broadcastInDim S64x3x224x448 ![] bcast_S_S64x3x224x448 (constantI S_ 32 0#32)))
      (addi j (broadcastInDim S64x3x224x448 ![] bcast_S_S64x3x224x448 (constantI S_ 32 448#32))) j)
    shapeCasts_S64x3x224x448_S64x3x224x448x1

/-- Whether that row is one of the 448. -/
def rowInside (i : IVec S64x224 32) : IVec S64x3x224x448x1 1 :=
  andi (cmpi .sge (rowAt i) (broadcastInDim S64x3x224x448x1 ![] bcast_S_S64x3x224x448x1 (constantI S_ 32 0#32)))
    (cmpi .sle (rowAt i) (broadcastInDim S64x3x224x448x1 ![0, 1, 2, 3, 4] bcast_S1x1x1x1x1_S64x3x224x448x1_0_1_2_3_4
      (broadcastInDim S1x1x1x1x1 ![4] bcast_S1_S1x1x1x1x1_4 (constantI S1 32 447#32))))

/-- The rows of `x` numbered by `i`. -/
def takeRows (x : FVec F S64x3x448x448 .f32) (i : IVec S64x224 32) : FVec F S64x3x224x448 .f32 :=
  select (Host.reduce IntOp.andi (rowInside i) (constantI S_ 1 1#1) reducesTo_S64x3x224x448x1_S64x3x224x448_d4 h_S_)
    (Host.gather gather_S64x3x448x448_S64x3x224x448x1_S64x3x224x448_n_2_013_013_2_4_1111 x (rowAt i))
    (broadcastInDim S64x3x224x448 ![] bcast_S_S64x3x224x448 (constant S_ .f32 0x7FC00000#32))

/-- The mean of two arrays, of weights `1 - f` and `f` by row. -/
def blendRows (y0 y1 : FVec F S64x3x224x448 .f32) (f : FVec F S64x224 .f32) : FVec F S64x3x224x448 .f32 :=
  addf (mulf y0 (broadcastInDim S64x3x224x448 ![0, 1, 2, 3] bcast_S64x1x224x1_S64x3x224x448_0_1_2_3
      (subf (broadcastInDim S64x1x224x1 ![] bcast_S_S64x1x224x1 (constant S_ .f32 0x3F800000#32))
        (shapeCast S64x1x224x1 f shapeCasts_S64x224_S64x1x224x1))))
    (mulf y1 (broadcastInDim S64x3x224x448 ![0, 1, 2, 3] bcast_S64x1x224x1_S64x3x224x448_0_1_2_3
      (shapeCast S64x1x224x1 f shapeCasts_S64x224_S64x1x224x1)))

/-- The rows resampled between the two neighbours of each source coordinate. -/
def resampleRows (x : FVec F S64x3x448x448 .f32) (a e : FVec F S64 .f32) : FVec F S64x3x224x448 .f32 :=
  blendRows (takeRows x (below a e)) (takeRows x (above a e)) (frac a e)

/-- The column each element of the result is taken from, a negative one counted from the end. -/
def colAt (i : IVec S64x224 32) : IVec S64x3x224x224x1 32 :=
  let j : IVec S64x3x224x224 32 := broadcastInDim S64x3x224x224 ![0, 1, 2, 3] bcast_S64x1x1x224_S64x3x224x224_0_1_2_3
    (shapeCast S64x1x1x224 i shapeCasts_S64x224_S64x1x1x224)
  shapeCast S64x3x224x224x1
    (select (cmpi .slt j (broadcastInDim S64x3x224x224 ![] bcast_S_S64x3x224x224 (constantI S_ 32 0#32)))
      (addi j (broadcastInDim S64x3x224x224 ![] bcast_S_S64x3x224x224 (constantI S_ 32 448#32))) j)
    shapeCasts_S64x3x224x224_S64x3x224x224x1

/-- Whether that column is one of the 448. -/
def colInside (i : IVec S64x224 32) : IVec S64x3x224x224x1 1 :=
  andi (cmpi .sge (colAt i) (broadcastInDim S64x3x224x224x1 ![] bcast_S_S64x3x224x224x1 (constantI S_ 32 0#32)))
    (cmpi .sle (colAt i) (broadcastInDim S64x3x224x224x1 ![0, 1, 2, 3, 4] bcast_S1x1x1x1x1_S64x3x224x224x1_0_1_2_3_4
      (broadcastInDim S1x1x1x1x1 ![4] bcast_S1_S1x1x1x1x1_4 (constantI S1 32 447#32))))

/-- The columns of `x` numbered by `i`. -/
def takeCols (x : FVec F S64x3x224x448 .f32) (i : IVec S64x224 32) : FVec F S64x3x224x224 .f32 :=
  select (Host.reduce IntOp.andi (colInside i) (constantI S_ 1 1#1) reducesTo_S64x3x224x224x1_S64x3x224x224_d4 h_S_)
    (Host.gather gather_S64x3x224x448_S64x3x224x224x1_S64x3x224x224_n_3_012_012_3_4_1111 x (colAt i))
    (broadcastInDim S64x3x224x224 ![] bcast_S_S64x3x224x224 (constant S_ .f32 0x7FC00000#32))

/-- The mean of two arrays, of weights `1 - f` and `f` by column. -/
def blendCols (y0 y1 : FVec F S64x3x224x224 .f32) (f : FVec F S64x224 .f32) : FVec F S64x3x224x224 .f32 :=
  addf (mulf y0 (broadcastInDim S64x3x224x224 ![0, 1, 2, 3] bcast_S64x1x1x224_S64x3x224x224_0_1_2_3
      (subf (broadcastInDim S64x1x1x224 ![] bcast_S_S64x1x1x224 (constant S_ .f32 0x3F800000#32))
        (shapeCast S64x1x1x224 f shapeCasts_S64x224_S64x1x1x224))))
    (mulf y1 (broadcastInDim S64x3x224x224 ![0, 1, 2, 3] bcast_S64x1x1x224_S64x3x224x224_0_1_2_3
      (shapeCast S64x1x1x224 f shapeCasts_S64x224_S64x1x1x224)))

/-- The columns resampled between the two neighbours of each source coordinate. -/
def resampleCols (x : FVec F S64x3x224x448 .f32) (a e : FVec F S64 .f32) : FVec F S64x3x224x224 .f32 :=
  blendCols (takeCols x (below a e)) (takeCols x (above a e)) (frac a e)

/-! ## The whole -/

/-- The images masked, their rows resampled and then their columns, for crops with the given ends on the two axes. -/
def resampled (x0 : FVec F S64x3x448x448 .f32) (a e a' e' : FVec F S64 .f32) : FVec F S64x3x224x224 .f32 :=
  resampleCols (resampleRows (masked x0 (mask a e) (mask a' e')) a e) a' e'

theorem val_start (x1 : FVec F S64x3 .f32) : val_main_v19 x1 = start (column x1 0) (column x1 2) := rfl
theorem val_stop (x1 : FVec F S64x3 .f32) : val_main_v25 x1 = stop (column x1 0) (column x1 2) := rfl
theorem val_start' (x1 : FVec F S64x3 .f32) : val_main_v29 x1 = start (column x1 1) (column x1 2) := rfl
theorem val_stop' (x1 : FVec F S64x3 .f32) : val_main_v35 x1 = stop (column x1 1) (column x1 2) := rfl
theorem val_mask (x1 : FVec F S64x3 .f32) : val_main_v63 x1 = mask (val_main_v19 x1) (val_main_v25 x1) := rfl
theorem val_mask' (x1 : FVec F S64x3 .f32) : val_main_v90 x1 = mask (val_main_v29 x1) (val_main_v35 x1) := rfl
theorem val_masked (x0 : FVec F S64x3x448x448 .f32) (x1 : FVec F S64x3 .f32) :
    val_main_v96 x0 x1 = masked x0 (val_main_v63 x1) (val_main_v90 x1) := rfl
theorem val_rows (x0 : FVec F S64x3x448x448 .f32) (x1 : FVec F S64x3 .f32) :
    val_main_v132 x0 x1 = resampleRows (val_main_v96 x0 x1) (val_main_v19 x1) (val_main_v25 x1) := rfl
theorem val_cols (x0 : FVec F S64x3x448x448 .f32) (x1 : FVec F S64x3 .f32) :
    val_main_v168 x0 x1 = resampleCols (val_main_v132 x0 x1) (val_main_v29 x1) (val_main_v35 x1) := rfl

/-- The reference's result, in these functions. -/
theorem val_eq (x0 : FVec F S64x3x448x448 .f32) (x1 : FVec F S64x3 .f32) :
    val_main_v168 x0 x1 = resampled x0 (start (column x1 0) (column x1 2)) (stop (column x1 0) (column x1 2))
      (start (column x1 1) (column x1 2)) (stop (column x1 1) (column x1 2)) := by
  rw [val_cols, val_rows, val_masked, val_mask, val_mask', val_start, val_stop, val_start', val_stop', resampled]

end Cert.ReferenceIdeal.Plain

end
-- ==== Proof.Numbers.lean ====
/- Numbers as the ideal instance has them: the programs' literals, and conversions between small words and floats. -/
module

public import Idealize.ShloMosaic.Lib.Pointwise

@[expose] public section

noncomputable section

namespace Cert.Numbers

open Idealize.ShloMosaic

theorem bits_448 : Ideal.ofBits .f32 0x43E00000#32 = ((448 : ℝ) : EReal) := by
  simp [Ideal.ofBits, Ideal.ieee, -EReal.coe_mul]; norm_num
theorem bits_447 : Ideal.ofBits .f32 0x43DF8000#32 = ((447 : ℝ) : EReal) := by
  simp [Ideal.ofBits, Ideal.ieee, -EReal.coe_mul]; norm_num
theorem bits_223 : Ideal.ofBits .f32 0x435F0000#32 = ((223 : ℝ) : EReal) := by
  simp [Ideal.ofBits, Ideal.ieee, -EReal.coe_mul]; norm_num
theorem bits_10 : Ideal.ofBits .f32 0x41200000#32 = ((10 : ℝ) : EReal) := by
  simp [Ideal.ofBits, Ideal.ieee, -EReal.coe_mul]; norm_num
theorem bits_3 : Ideal.ofBits .f32 0x40400000#32 = ((3 : ℝ) : EReal) := by
  simp [Ideal.ofBits, Ideal.ieee, -EReal.coe_mul]; norm_num
theorem bits_2 : Ideal.ofBits .f32 0x40000000#32 = ((2 : ℝ) : EReal) := by
  simp [Ideal.ofBits, Ideal.ieee, -EReal.coe_mul]; norm_num

/-- A small word read as a signed integer is its number. -/
theorem toInt_small {n : ℕ} (h : n < 2 ^ 31) : (BitVec.ofNat 32 n).toInt = n := by
  have h1 : (BitVec.ofNat 32 n).toNat = n := by rw [BitVec.toNat_ofNat]; exact Nat.mod_eq_of_lt (by omega)
  rw [BitVec.toInt_eq_toNat_of_lt (by rw [h1]; omega), h1]

/-- A small word converted to a float is its number. -/
theorem sitofp_small {n : ℕ} (h : n < 2 ^ 31) : (FloatOps.sitofp .f32 (BitVec.ofNat 32 n) : Ideal .f32) = ((n : ℝ) : EReal) := by
  show (((BitVec.ofNat 32 n).toInt : ℝ) : EReal) = _
  rw [toInt_small h]; norm_cast

/-- A small number converted to a word is that number's word. -/
theorem fptosi_small {n : ℕ} (h : n < 2 ^ 31) :
    FloatOps.fptosi (F := Ideal) (φ := .f32) 32 ((n : ℝ) : EReal) = BitVec.ofNat 32 n := by
  show BitVec.ofInt 32 (max (-(2 ^ 31 : ℕ)) (min ((2 ^ 31 : ℕ) - 1) (if (0 : ℝ) ≤ (n : ℝ) then ⌊(n : ℝ)⌋ else ⌈(n : ℝ)⌉))) = _
  rw [if_pos (Nat.cast_nonneg n), Int.floor_natCast, min_eq_right (by push_cast; omega), max_eq_right (by push_cast; omega)]
  exact BitVec.ofInt_natCast 32 n

/-- Small words are equal when their numbers are. -/
theorem word_eq_iff {m n : ℕ} (hm : m < 2 ^ 31) (hn : n < 2 ^ 31) : BitVec.ofNat 32 m = BitVec.ofNat 32 n ↔ m = n := by
  constructor
  · intro h
    have := congrArg BitVec.toInt h
    rw [toInt_small hm, toInt_small hn] at this
    exact_mod_cast this
  · rintro rfl; rfl

end Cert.Numbers

end
-- ==== Proof.Take.lean ====
/- The reference's two gathers at an index: of an image's rows and of its columns, at row and column numbers that are
   whole and inside the image. -/
module

public import proofs.«01_k».proof.Proof.Plain
public import proofs.«01_k».proof.Proof.Numbers
public import Idealize.ShloMosaic.Lib.Pointwise
public import Idealize.ShloMosaic.Lib.ReduceAll

@[expose] public section

noncomputable section

namespace Cert.ReferenceIdeal.Take

open Cert.ReferenceIdeal Cert.ReferenceIdeal.Gen Cert.ReferenceIdeal.Plain Cert.Numbers Idealize.ShloMosaic

section
variable {s si t : Shape} (d : GatherDims s si t) {w : ℕ}

/-- On a batching axis a gather reads at the result's own coordinate. -/
theorem batch_axis (j : t.Idx) (idx : IVec si w) (a : Fin s.rank) (ha : a ∈ d.operandBatchingDims) :
    (d.operandIdx j idx a : ℕ) = d.batchCoord j a := by
  show d.start j idx a + d.batchCoord j a + d.offCoord j a = _
  rw [d.start_batching j idx a ha, d.offCoord_eq_zero j a fun h => ((d.mem_sKept a).1 h).2 ha, Nat.zero_add, Nat.add_zero]

/-- On the axis its start indices name a gather reads at the start index, kept inside the axis. -/
theorem start_axis (j : t.Idx) (idx : IVec si w) (a : Fin s.rank) (ha : a ∈ d.startIndexMap) (hc : a ∈ d.collapsedSliceDims) :
    (d.operandIdx j idx a : ℕ)
      = min (idx (d.siIdx j ⟨d.startIndexMap.idxOf a, List.idxOf_lt_length_iff.2 ha⟩)).toInt.toNat (s.size a - d.sliceSizes a) := by
  show d.start j idx a + d.batchCoord j a + d.offCoord j a = _
  rw [d.batchCoord_eq_zero j a (d.sim_disjoint a ha), d.offCoord_eq_zero j a fun h => ((d.mem_sKept a).1 h).1 hc,
    Nat.add_zero]
  unfold GatherDims.start
  rw [dif_pos ha]

end

/-- An axis is one of four. -/
theorem axis_cases (a : Fin 4) : a = 0 ∨ a = 1 ∨ a = 2 ∨ a = 3 := by revert a; decide

/-- The gather along the rows, at an index. -/
theorem gather_rows {α : Type} (x : S64x3x448x448.Idx → α) (idx : IVec S64x3x224x448x1 32)
    (b : Fin 64) (c : Fin 3) (r : Fin 224) (t : Fin 448) :
    Host.gather gather_S64x3x448x448_S64x3x224x448x1_S64x3x224x448_n_2_013_013_2_4_1111 x idx (ix4 b c r t)
      = x (ix4 b c ⟨min (idx (ix5 b c r t 0)).toInt.toNat 447, by omega⟩ t) := by
  refine congrArg x (funext fun a => Fin.ext ?_)
  rcases axis_cases a with rfl | rfl | rfl | rfl
  case inr.inr.inl =>
    refine (start_axis _ _ _ _ (show (2 : Fin 4) ∈ ([2] : List (Fin 4)) by decide) (show (2 : Fin 4) ∈ ([2] : List (Fin 4)) by decide)).trans ?_
    have hsi : ∀ h, gather_S64x3x448x448_S64x3x224x448x1_S64x3x224x448_n_2_013_013_2_4_1111.siIdx (ix4 b c r t) ⟨([2] : List (Fin 4)).idxOf 2, h⟩
        = ix5 b c r t 0 := fun h => by
      funext a
      refine Fin.ext ?_
      match a with
      | ⟨0, _⟩ => rfl
      | ⟨1, _⟩ => rfl
      | ⟨2, _⟩ => rfl
      | ⟨3, _⟩ => rfl
      | ⟨4, _⟩ => rfl
    exact congrArg (fun k => min (idx k).toInt.toNat 447) (hsi _)
  all_goals
    refine (batch_axis _ _ _ _ (show _ ∈ ([0, 1, 3] : List (Fin 4)) by decide)).trans ?_
    exact (dif_pos (show _ ∈ ([0, 1, 3] : List (Fin 4)) by decide)).trans rfl

/-- The gather along the columns, at an index. -/
theorem gather_cols {α : Type} (x : S64x3x224x448.Idx → α) (idx : IVec S64x3x224x224x1 32)
    (b : Fin 64) (c : Fin 3) (r q : Fin 224) :
    Host.gather gather_S64x3x224x448_S64x3x224x224x1_S64x3x224x224_n_3_012_012_3_4_1111 x idx (ix4 b c r q)
      = x (ix4 b c r ⟨min (idx (ix5 b c r q 0)).toInt.toNat 447, by omega⟩) := by
  refine congrArg x (funext fun a => Fin.ext ?_)
  rcases axis_cases a with rfl | rfl | rfl | rfl
  case inr.inr.inr =>
    refine (start_axis _ _ _ _ (show (3 : Fin 4) ∈ ([3] : List (Fin 4)) by decide) (show (3 : Fin 4) ∈ ([3] : List (Fin 4)) by decide)).trans ?_
    have hsi : ∀ h, gather_S64x3x224x448_S64x3x224x224x1_S64x3x224x224_n_3_012_012_3_4_1111.siIdx (ix4 b c r q) ⟨([3] : List (Fin 4)).idxOf 3, h⟩
        = ix5 b c r q 0 := fun h => by
      funext a
      refine Fin.ext ?_
      match a with
      | ⟨0, _⟩ => rfl
      | ⟨1, _⟩ => rfl
      | ⟨2, _⟩ => rfl
      | ⟨3, _⟩ => rfl
      | ⟨4, _⟩ => rfl
    exact congrArg (fun k => min (idx k).toInt.toNat 447) (hsi _)
  all_goals
    refine (batch_axis _ _ _ _ (show _ ∈ ([0, 1, 2] : List (Fin 4)) by decide)).trans ?_
    exact (dif_pos (show _ ∈ ([0, 1, 2] : List (Fin 4)) by decide)).trans rfl

/-- A whole number less than 448, as a word, is not negative and at most 447. -/
theorem word_inside (n : ℕ) (hn : n < 448) :
    IntOp.cmpi .slt (BitVec.ofNat 32 n) 0#32 = 0#1 ∧ IntOp.cmpi .sge (BitVec.ofNat 32 n) 0#32 = 1#1
      ∧ IntOp.cmpi .sle (BitVec.ofNat 32 n) 447#32 = 1#1 := by
  have h : ∀ n : Fin 448, IntOp.cmpi .slt (BitVec.ofNat 32 n.val) 0#32 = 0#1
      ∧ IntOp.cmpi .sge (BitVec.ofNat 32 n.val) 0#32 = 1#1 ∧ IntOp.cmpi .sle (BitVec.ofNat 32 n.val) 447#32 = 1#1 := by
    decide +kernel
  exact h ⟨n, hn⟩

/-- The numbers `i` are all whole and inside the image. -/
def Inside (i : IVec S64x224 32) : Prop := ∀ b r, ∃ n, n < 448 ∧ i (ix2 b r) = BitVec.ofNat 32 n

variable {F : FTy → Type} [FloatOps F] (i : IVec S64x224 32) (h : Inside i) (b : Fin 64) (c : Fin 3) (r q : Fin 224) (t : Fin 448)
  (n : ℕ) (hn : n < 448) (hi : i (ix2 b r) = BitVec.ofNat 32 n) (hq : i (ix2 b q) = BitVec.ofNat 32 n)

include hn hi in
theorem rowAt_apply (z : Fin 1) : rowAt i (ix5 b c r t z) = BitVec.ofNat 32 n := by
  unfold rowAt
  pointwise
  rw [hi, (word_inside n hn).1]
  rfl

include hn hq in
/-- The column number an element of the result is taken from. -/
theorem colAt_apply (z : Fin 1) : colAt i (ix5 b c r q z) = BitVec.ofNat 32 n := by
  unfold colAt
  pointwise
  rw [hq, (word_inside n hn).1]
  rfl

include h in
/-- Every row number passes the reference's test. -/
theorem rowInside_apply (j : S64x3x224x448x1.Idx) : rowInside i j = 1#1 := by
  rw [eq_ix5 j]
  obtain ⟨n, hn, hi⟩ := h (j 0) (j 2)
  have e : rowAt i (ix5 (j 0) (j 1) (j 2) (j 3) (j 4)) = BitVec.ofNat 32 n := rowAt_apply i _ _ _ _ n hn hi _
  unfold rowInside
  show IntOp.andi (IntOp.cmpi .sge (rowAt i _) 0#32) (IntOp.cmpi .sle (rowAt i _) 447#32) = _
  rw [e, (word_inside n hn).2.1, (word_inside n hn).2.2]
  rfl

include h in
/-- Every column number passes the reference's test. -/
theorem colInside_apply (j : S64x3x224x224x1.Idx) : colInside i j = 1#1 := by
  rw [eq_ix5 j]
  obtain ⟨n, hn, hi⟩ := h (j 0) (j 3)
  have e : colAt i (ix5 (j 0) (j 1) (j 2) (j 3) (j 4)) = BitVec.ofNat 32 n := colAt_apply i _ _ _ _ n hn hi _
  unfold colInside
  show IntOp.andi (IntOp.cmpi .sge (colAt i _) 0#32) (IntOp.cmpi .sle (colAt i _) 447#32) = _
  rw [e, (word_inside n hn).2.1, (word_inside n hn).2.2]
  rfl

include h hi in
/-- The rows numbered by `i`, at an index where the number is `n`. -/
theorem takeRows_apply (x : FVec F S64x3x448x448 .f32) : takeRows x i (ix4 b c r t) = x (ix4 b c ⟨n, hn⟩ t) := by
  have hm : Host.reduce IntOp.andi (rowInside i) (constantI S_ 1 1#1) reducesTo_S64x3x224x448x1_S64x3x224x448_d4 h_S_ (ix4 b c r t) = 1#1 :=
    Host.reduce_andi_one _ _ _ _ _ rfl (rowInside_apply i h)
  unfold takeRows
  show Scalar.select _ _ _ = _
  have e : (⟨min (rowAt i (ix5 b c r t 0)).toInt.toNat 447, by omega⟩ : Fin 448) = ⟨n, hn⟩ := Fin.ext (by
    show min (rowAt i (ix5 b c r t 0)).toInt.toNat 447 = n
    rw [rowAt_apply i b c r t n hn hi 0, toInt_small (by omega)]
    omega)
  rw [hm, gather_rows, e]
  rfl

include h hq in
/-- The columns numbered by `i`, at an index where the number is `n`. -/
theorem takeCols_apply (x : FVec F S64x3x224x448 .f32) : takeCols x i (ix4 b c r q) = x (ix4 b c r ⟨n, hn⟩) := by
  have hm : Host.reduce IntOp.andi (colInside i) (constantI S_ 1 1#1) reducesTo_S64x3x224x224x1_S64x3x224x224_d4 h_S_ (ix4 b c r q) = 1#1 :=
    Host.reduce_andi_one _ _ _ _ _ rfl (colInside_apply i h)
  unfold takeCols
  show Scalar.select _ _ _ = _
  have e : (⟨min (colAt i (ix5 b c r q 0)).toInt.toNat 447, by omega⟩ : Fin 448) = ⟨n, hn⟩ := Fin.ext (by
    show min (colAt i (ix5 b c r q 0)).toInt.toNat 447 = n
    rw [colAt_apply i b c r q n hn hq 0, toInt_small (by omega)]
    omega)
  rw [hm, gather_cols, e]
  rfl

end Cert.ReferenceIdeal.Take

end
-- ==== Proof.Resample.lean ====
/- The mathematics of one axis of the crop over the reals, and the equation between the two ways of resampling
   a plane: by two weight matrices with at most two nonzero entries a column, and by two bilinear steps over a masked
   plane. The plane's elements may be infinite; the weights are finite and not negative. -/
module

public import Idealize.ShloMosaic.PureOps.Ideal

@[expose] public section

noncomputable section

namespace Cert.Resample

open Finset

/-- The source coordinate of output `r` in the crop from `a` to `e`, corners aligned over 224 outputs. -/
def coord (a e r : ℕ) : ℝ := a + r * ((e : ℝ) - a - 1) / 223

/-- The coordinate's lower neighbour. -/
def low (a e r : ℕ) : ℕ := ⌊coord a e r⌋₊

/-- The coordinate's upper neighbour, kept inside the plane. -/
def high (a e r : ℕ) : ℕ := min (low a e r + 1) 447

/-- The coordinate's distance from its lower neighbour. -/
def part (a e r : ℕ) : ℝ := coord a e r - low a e r

/-- The soft mask of the crop from `a` to `e` at `s`. -/
def mask (a e s : ℕ) : ℝ := (1 + Real.exp (-(10 * ((s : ℝ) - a))))⁻¹ - (1 + Real.exp (-(10 * ((s : ℝ) - e))))⁻¹

/-- The weight of input `s` in output `r`. -/
def weight (a e s r : ℕ) : ℝ :=
  (if s = low a e r then (1 - part a e r) * mask a e (low a e r) else 0)
    + (if s = high a e r then part a e r * mask a e (high a e r) else 0)

section Facts
variable {a e r : ℕ}

/-- The coordinate is not before the crop's first element. -/
theorem le_coord (h : a < e) : (a : ℝ) ≤ coord a e r := by
  have h1 : (a : ℝ) + 1 ≤ e := by exact_mod_cast h
  have : (0 : ℝ) ≤ r * ((e : ℝ) - a - 1) / 223 := by
    apply div_nonneg (mul_nonneg (Nat.cast_nonneg r) (by linarith)) (by norm_num)
  unfold coord; linarith

/-- The coordinate is not after the crop's last element. -/
theorem coord_le (h : a < e) (hr : r < 224) : coord a e r ≤ (e : ℝ) - 1 := by
  have h1 : (a : ℝ) + 1 ≤ e := by exact_mod_cast h
  have h2 : (r : ℝ) ≤ 223 := by exact_mod_cast Nat.le_of_lt_succ hr
  have : (r : ℝ) * ((e : ℝ) - a - 1) / 223 ≤ (e : ℝ) - a - 1 := by
    rw [div_le_iff₀ (by norm_num)]; nlinarith
  unfold coord; linarith

theorem coord_nonneg (h : a < e) : 0 ≤ coord a e r := (Nat.cast_nonneg a).trans (le_coord h)

/-- The integer part of the coordinate is its lower neighbour. -/
theorem floor_coord (h : a < e) : ⌊coord a e r⌋ = (low a e r : ℤ) := by
  unfold low; exact (Int.natCast_floor_eq_floor (coord_nonneg h)).symm

theorem low_le (h : a < e) (he : e ≤ 448) (hr : r < 224) : low a e r ≤ 447 := by
  unfold low
  apply Nat.floor_le_of_le
  have := coord_le h hr
  have h2 : (e : ℝ) ≤ 448 := by exact_mod_cast he
  push_cast; linarith

theorem high_le : high a e r ≤ 447 := min_le_right _ _

theorem part_nonneg (h : a < e) : 0 ≤ part a e r := by
  unfold part low; have := Nat.floor_le (coord_nonneg (r := r) h); linarith

theorem part_le_one : part a e r ≤ 1 := by
  unfold part low; have := Nat.lt_floor_add_one (coord a e r); linarith

/-- The mask is not negative: the logistic function increases, and the crop begins before it ends. -/
theorem mask_nonneg (h : a < e) (s : ℕ) : 0 ≤ mask a e s := by
  have h1 : (a : ℝ) ≤ e := by exact_mod_cast h.le
  unfold mask
  rw [sub_nonneg]
  have : Real.exp (-(10 * ((s : ℝ) - a))) ≤ Real.exp (-(10 * ((s : ℝ) - e))) := Real.exp_le_exp.mpr (by linarith)
  have h3 := Real.exp_pos (-(10 * ((s : ℝ) - a)))
  exact inv_anti₀ (by linarith) (by linarith)

end Facts

/-! ## The equation -/

/-- A row times a column with two entries, at `j0` and `j1`, is the sum of two products. -/
theorem sum_two (f : ℕ → EReal) (j0 j1 : ℕ) (h0 : j0 < 448) (h1 : j1 < 448) (u0 u1 : ℝ) (hu0 : 0 ≤ u0) (hu1 : 0 ≤ u1) :
    ∑ t : Fin 448, f t * (((if t.val = j0 then u0 else 0) + (if t.val = j1 then u1 else 0) : ℝ) : EReal)
      = f j0 * (u0 : EReal) + f j1 * (u1 : EReal) := by
  have one : ∀ (j : ℕ) (hj : j < 448) (u : ℝ), ∑ t : Fin 448, f t * ((if t.val = j then u else 0 : ℝ) : EReal) = f j * (u : EReal) := by
    intro j hj u
    rw [Finset.sum_eq_single (⟨j, hj⟩ : Fin 448)]
    · simp
    · intro b _ hb
      have : b.val ≠ j := fun h => hb (Fin.ext h)
      simp [this]
    · intro h; exact absurd (Finset.mem_univ _) h
  rw [← one j0 h0 u0, ← one j1 h1 u1, ← Finset.sum_add_distrib]
  refine Finset.sum_congr rfl fun t _ => ?_
  rw [EReal.coe_add]
  apply EReal.left_distrib_of_nonneg
  · split_ifs <;> simp [hu0]
  · split_ifs <;> simp [hu1]

/-- Four elements, weighted and added in either order. -/
theorem four (A00 A01 A10 A11 : EReal) (p0 p1 q0 q1 m0 m1 n0 n1 : ℝ) (hp0 : 0 ≤ p0) (hp1 : 0 ≤ p1) (hq0 : 0 ≤ q0)
    (hq1 : 0 ≤ q1) (hm0 : 0 ≤ m0) (hm1 : 0 ≤ m1) :
    (A00 * ((q0 * n0 : ℝ) : EReal) + A01 * ((q1 * n1 : ℝ) : EReal)) * ((p0 * m0 : ℝ) : EReal)
        + (A10 * ((q0 * n0 : ℝ) : EReal) + A11 * ((q1 * n1 : ℝ) : EReal)) * ((p1 * m1 : ℝ) : EReal)
      = (A00 * (m0 : EReal) * (n0 : EReal) * (p0 : EReal) + A10 * (m1 : EReal) * (n0 : EReal) * (p1 : EReal)) * (q0 : EReal)
        + (A01 * (m0 : EReal) * (n1 : EReal) * (p0 : EReal) + A11 * (m1 : EReal) * (n1 : EReal) * (p1 : EReal)) * (q1 : EReal) := by
  have distrib : ∀ (y z : EReal) (x : ℝ), 0 ≤ x → (y + z) * (x : EReal) = y * (x : EReal) + z * (x : EReal) := fun y z x hx =>
    EReal.right_distrib_of_nonneg_of_ne_top (by exact_mod_cast hx) (EReal.coe_ne_top x) y z
  rw [distrib _ _ _ (mul_nonneg hp0 hm0), distrib _ _ _ (mul_nonneg hp1 hm1), distrib _ _ _ hq0, distrib _ _ _ hq1]
  simp only [EReal.coe_mul]
  have e00 : A00 * ((q0 : EReal) * n0) * (p0 * m0) = A00 * m0 * n0 * p0 * q0 := by ac_rfl
  have e01 : A01 * ((q1 : EReal) * n1) * (p0 * m0) = A01 * m0 * n1 * p0 * q1 := by ac_rfl
  have e10 : A10 * ((q0 : EReal) * n0) * (p1 * m1) = A10 * m1 * n0 * p1 * q0 := by ac_rfl
  have e11 : A11 * ((q1 : EReal) * n1) * (p1 * m1) = A11 * m1 * n1 * p1 * q1 := by ac_rfl
  rw [e00, e01, e10, e11, add_add_add_comm]

/-- THE EQUATION. The product of the plane `A` with the weights of its two axes, at output `(r, q)`, is two bilinear
    steps over the masked plane: along the rows at the columns `j`, then along the columns. -/
theorem resample_eq (A : ℕ → ℕ → EReal) (a e a' e' r q : ℕ) (h : a < e) (he : e ≤ 448) (h' : a' < e') (he' : e' ≤ 448)
    (hr : r < 224) (hq : q < 224) :
    ∑ x : Fin 448, (weight a e x r : EReal) * ∑ t : Fin 448, A x t * (weight a' e' t q : EReal)
      = (A (low a e r) (low a' e' q) * (mask a e (low a e r) : EReal) * (mask a' e' (low a' e' q) : EReal) * ((1 - part a e r : ℝ) : EReal)
          + A (high a e r) (low a' e' q) * (mask a e (high a e r) : EReal) * (mask a' e' (low a' e' q) : EReal) * (part a e r : EReal))
            * ((1 - part a' e' q : ℝ) : EReal)
        + (A (low a e r) (high a' e' q) * (mask a e (low a e r) : EReal) * (mask a' e' (high a' e' q) : EReal) * ((1 - part a e r : ℝ) : EReal)
          + A (high a e r) (high a' e' q) * (mask a e (high a e r) : EReal) * (mask a' e' (high a' e' q) : EReal) * (part a e r : EReal))
            * (part a' e' q : EReal) := by
  have lt : ∀ {n : ℕ}, n ≤ 447 → n < 448 := fun h => Nat.lt_succ_of_le h
  have p0 : ∀ {a e r : ℕ}, 0 ≤ 1 - part a e r := fun {a e r} => sub_nonneg.mpr part_le_one
  have inner : ∀ x : ℕ, ∑ t : Fin 448, A x t * (weight a' e' t q : EReal)
      = A x (low a' e' q) * (((1 - part a' e' q) * mask a' e' (low a' e' q) : ℝ) : EReal)
        + A x (high a' e' q) * ((part a' e' q * mask a' e' (high a' e' q) : ℝ) : EReal) := fun x =>
    sum_two (A x) _ _ (lt (low_le h' he' hq)) (lt high_le) _ _ (mul_nonneg p0 (mask_nonneg h' _))
      (mul_nonneg (part_nonneg h') (mask_nonneg h' _))
  simp only [inner]
  have outer := sum_two (fun x => A x (low a' e' q) * (((1 - part a' e' q) * mask a' e' (low a' e' q) : ℝ) : EReal)
      + A x (high a' e' q) * ((part a' e' q * mask a' e' (high a' e' q) : ℝ) : EReal))
    (low a e r) (high a e r) (lt (low_le h he hr)) (lt high_le)
    ((1 - part a e r) * mask a e (low a e r)) (part a e r * mask a e (high a e r))
    (mul_nonneg p0 (mask_nonneg h _)) (mul_nonneg (part_nonneg h) (mask_nonneg h _))
  refine ((Finset.sum_congr rfl fun x _ => mul_comm _ _).trans outer).trans ?_
  exact four _ _ _ _ _ _ _ _ _ _ _ _ p0 (part_nonneg h) p0 (part_nonneg h') (mask_nonneg h _) (mask_nonneg h _)

end Cert.Resample

end
-- ==== Proof.Weights.lean ====
/- One sample of the kernel at an index, at the ideal instance: for a crop between whole numbers the weight matrix of
   an axis has the entries `Resample.weight`, and a channel of the result is the product of the plane with the weights
   of its two axes. -/
module

public import proofs.«01_k».proof.Proof.Sample
public import proofs.«01_k».proof.Proof.Numbers
public import proofs.«01_k».proof.Proof.Resample

@[expose] public section

noncomputable section

namespace Cert.Weights

open Cert.KernelIdeal Cert.KernelIdeal.Sample Cert.Numbers Cert.Resample Idealize.ShloMosaic

/-- The minimum of two reals, among the extended reals. -/
theorem coe_min (x y : ℝ) : min (x : EReal) (y : EReal) = ((min x y : ℝ) : EReal) := (EReal.coe_strictMono.monotone.map_min).symm

/-- The maximum of two reals, among the extended reals. -/
theorem coe_max (x y : ℝ) : max (x : EReal) (y : EReal) = ((max x y : ℝ) : EReal) := (EReal.coe_strictMono.monotone.map_max).symm

section
variable {a e : ℕ}

/-- The source coordinates. -/
theorem src_apply (r : Fin 224) : Sample.src (F := Ideal) ((a : ℝ) : EReal) ((e : ℝ) : EReal) (ix2 0 r) = ((coord a e r : ℝ) : EReal) := by
  unfold Sample.src
  pointwise
  rw [sitofp_small (by omega), bits_223, Ideal.div_coe (by norm_num), ← EReal.coe_one, ← EReal.coe_sub, ← EReal.coe_sub,
    ← EReal.coe_mul, ← EReal.coe_mul, ← EReal.coe_add]
  congr 1
  unfold coord; ring

/-- The lower neighbours. -/
theorem below_apply (h : a < e) (he : e ≤ 448) (r : Fin 224) :
    below (F := Ideal) ((a : ℝ) : EReal) ((e : ℝ) : EReal) (ix2 0 r) = ((low a e r : ℝ) : EReal) := by
  unfold below
  pointwise
  rw [src_apply, Ideal.liftRound_coe, floor_coord h, bits_448, ← EReal.coe_one, ← EReal.coe_zero, ← EReal.coe_sub, coe_max, coe_min]
  have h1 : (low a e r : ℝ) ≤ 447 := by exact_mod_cast low_le h he r.isLt
  have h2 : (0 : ℝ) ≤ low a e r := Nat.cast_nonneg _
  rw [Int.cast_natCast, max_eq_right h2, min_eq_right (by linarith)]

/-- The upper neighbours. -/
theorem above_apply (h : a < e) (he : e ≤ 448) (r : Fin 224) :
    above (F := Ideal) ((a : ℝ) : EReal) ((e : ℝ) : EReal) (ix2 0 r) = ((high a e r : ℝ) : EReal) := by
  unfold above
  pointwise
  rw [below_apply h he, bits_448, ← EReal.coe_one, ← EReal.coe_sub, ← EReal.coe_add, coe_min]
  unfold high
  push_cast
  norm_num

/-- The distances from the lower neighbours. -/
theorem frac_apply (h : a < e) (he : e ≤ 448) (r : Fin 224) :
    frac (F := Ideal) ((a : ℝ) : EReal) ((e : ℝ) : EReal) (ix2 0 r) = ((part a e r : ℝ) : EReal) := by
  unfold frac
  pointwise
  rw [src_apply, below_apply h he, ← EReal.coe_sub]; rfl

/-- The mask at whole coordinates. -/
theorem maskAt_apply (x : FVec Ideal S1x224 .f32) (r : Fin 224) (n : ℕ) (hx : x (ix2 0 r) = ((n : ℝ) : EReal)) :
    maskAt (F := Ideal) ((a : ℝ) : EReal) ((e : ℝ) : EReal) x (ix2 0 r) = ((mask a e n : ℝ) : EReal) := by
  unfold maskAt
  pointwise
  rw [hx, bits_10, ← EReal.coe_sub, ← EReal.coe_sub, ← EReal.coe_mul, ← EReal.coe_mul, Ideal.logistic_coe, Ideal.logistic_coe, ← EReal.coe_sub]
  rfl

/-- A row of weights placed at whole row numbers. -/
theorem place_apply (x w : FVec Ideal S1x224 .f32) (s : Fin 448) (r : Fin 224) (n : ℕ) (hn : n ≤ 447) (u : ℝ)
    (hx : x (ix2 0 r) = ((n : ℝ) : EReal)) (hw : w (ix2 0 r) = (u : EReal)) :
    place (F := Ideal) x w (ix2 s r) = ((if s.val = n then u else 0 : ℝ) : EReal) := by
  unfold place
  pointwise
  rw [hx, hw, fptosi_small (by omega)]
  by_cases hs : s.val = n
  · rw [if_pos hs, ← hs]; simp [IntOp.cmpi, Scalar.select]
  · have : BitVec.ofNat 32 s.val ≠ BitVec.ofNat 32 n := fun h => hs ((word_eq_iff (by omega) (by omega)).mp h)
    rw [if_neg hs]; simp [IntOp.cmpi, Scalar.select, beq_eq_false_iff_ne.mpr this]

/-- The weight matrix of an axis. -/
theorem weights_apply (h : a < e) (he : e ≤ 448) (s : Fin 448) (r : Fin 224) :
    weights (F := Ideal) ((a : ℝ) : EReal) ((e : ℝ) : EReal) (ix2 s r) = ((weight a e s r : ℝ) : EReal) := by
  unfold weights
  pointwise
  rw [place_apply _ _ s r (low a e r) (low_le h he r.isLt) ((1 - part a e r) * mask a e (low a e r)) (below_apply h he r) ?_,
    place_apply _ _ s r (high a e r) high_le (part a e r * mask a e (high a e r)) (above_apply h he r) ?_, ← EReal.coe_add]
  · rfl
  · pointwise
    rw [frac_apply h he, maskAt_apply _ r _ (above_apply h he r), ← EReal.coe_mul]
  · pointwise
    rw [frac_apply h he, maskAt_apply _ r _ (below_apply h he r), ← EReal.coe_one, ← EReal.coe_sub, ← EReal.coe_mul]

end

/-- The image resampled along its columns. -/
theorem columns_apply (img : Vec Ideal S1x1344x448 .f32) (w : FVec Ideal S448x224 .bf16) (x : Fin 1344) (q : Fin 224) :
    columns (F := Ideal) img w (ix2 x q) = ∑ t : Fin 448, img (ix3 0 x t) * w (ix2 t q) := by
  unfold columns
  pointwise

/-- A channel of one sample's result, for crops between whole numbers: the product of the channel's plane with the weights
    of the two axes. -/
theorem sample_apply (tx ty tl : EReal) (img : Vec Ideal S1x1344x448 .f32) (c : Fin 3) (r q : Fin 224) (a e a' e' : ℕ)
    (h : a < e) (he : e ≤ 448) (h' : a' < e') (he' : e' ≤ 448)
    (hlo : lo (F := Ideal) tx tl = ((a : ℝ) : EReal)) (hhi : hi (F := Ideal) tx tl = ((e : ℝ) : EReal))
    (hlo' : lo (F := Ideal) ty tl = ((a' : ℝ) : EReal)) (hhi' : hi (F := Ideal) ty tl = ((e' : ℝ) : EReal)) :
    sample (F := Ideal) tx ty tl img c (ix4 0 0 r q)
      = ∑ x : Fin 448, ((weight a e x r : ℝ) : EReal)
          * ∑ t : Fin 448, img (ix3 0 ⟨c.val * 448 + x.val, by omega⟩ t) * ((weight a' e' t q : ℝ) : EReal) := by
  unfold sample channel
  rw [hlo, hhi, hlo', hhi']
  pointwise
  refine Finset.sum_congr rfl fun x _ => ?_
  rw [weights_apply h he, columns_apply]
  refine congrArg _ (Finset.sum_congr rfl fun t _ => ?_)
  rw [weights_apply h' he']

end Cert.Weights

end
-- ==== Proof.Reference.lean ====
/- The reference at an index, at the ideal instance: for crops between whole numbers each output is the mean of the four
   masked image elements around its source coordinates, weighted by the distances from them. -/
module

public import proofs.«01_k».proof.Proof.Take
public import proofs.«01_k».proof.Proof.Weights

@[expose] public section

noncomputable section

namespace Cert.ReferenceIdeal.Reference

open Cert.ReferenceIdeal Cert.ReferenceIdeal.Gen Cert.ReferenceIdeal.Plain Cert.ReferenceIdeal.Take Cert.Numbers Idealize.ShloMosaic
open Cert.Weights (coe_min coe_max)
open Cert.Resample (coord low high part floor_coord low_le high_le)

/-! ## The crop -/

/-- The crop begins where the kernel's does. -/
theorem start_apply (t l : FVec Ideal S64 .f32) (b : Fin 64) :
    start (F := Ideal) t l (ix1 b) = Cert.KernelIdeal.Sample.lo (F := Ideal) (t (ix1 b)) (l (ix1 b)) := rfl

/-- The crop ends where the kernel's does. -/
theorem stop_apply (t l : FVec Ideal S64 .f32) (b : Fin 64) :
    stop (F := Ideal) t l (ix1 b) = Cert.KernelIdeal.Sample.hi (F := Ideal) (t (ix1 b)) (l (ix1 b)) := rfl

/-- A column of the table of locations. -/
theorem column_apply (x1 : FVec Ideal S64x3 .f32) (q : Fin 3) (b : Fin 64) : column x1 q (ix1 b) = x1 (ix2 b q) := by
  fin_cases q <;> · unfold column; pointwise

/-- The crops from `A` to `E` are between the whole numbers `a` and `e`, inside the image. -/
def Crops (A E : FVec Ideal S64 .f32) (a e : Fin 64 → ℕ) : Prop :=
  ∀ b, a b < e b ∧ e b ≤ 448 ∧ A (ix1 b) = ((a b : ℝ) : EReal) ∧ E (ix1 b) = ((e b : ℝ) : EReal)

section
variable {A E : FVec Ideal S64 .f32} {a e : Fin 64 → ℕ} (h : Crops A E a e)
include h

/-- The mask of an axis. -/
theorem mask_apply (b : Fin 64) (x : Fin 448) : Plain.mask (F := Ideal) A E (ix2 b x) = ((Resample.mask (a b) (e b) x : ℝ) : EReal) := by
  obtain ⟨-, -, hA, hE⟩ := h b
  have one : ∀ (C : FVec Ideal S64 .f32) (n : ℕ), C (ix1 b) = ((n : ℝ) : EReal) →
      steep (F := Ideal) C (ix2 b x) = (((1 + Real.exp (-(10 * ((x.val : ℝ) - n))))⁻¹ : ℝ) : EReal) := by
    intro C n hC
    unfold steep
    pointwise
    rw [hC, sitofp_small (by omega), bits_10, ← EReal.coe_sub, ← EReal.coe_mul]
    exact Ideal.logistic_coe _
  unfold Plain.mask
  pointwise
  rw [one A (a b) hA, one E (e b) hE, ← EReal.coe_sub]
  rfl

/-- The source coordinates. -/
theorem source_apply (b : Fin 64) (r : Fin 224) : source (F := Ideal) A E (ix2 b r) = ((coord (a b) (e b) r : ℝ) : EReal) := by
  obtain ⟨-, -, hA, hE⟩ := h b
  unfold source
  pointwise
  rw [hA, hE, sitofp_small (by omega), bits_223, Ideal.div_coe (by norm_num), ← EReal.coe_one, ← EReal.coe_sub, ← EReal.coe_sub,
    ← EReal.coe_mul, ← EReal.coe_mul, ← EReal.coe_add]
  congr 1
  unfold coord; ring

/-- The lower neighbours. -/
theorem below_apply (b : Fin 64) (r : Fin 224) : below (F := Ideal) A E (ix2 b r) = BitVec.ofNat 32 (low (a b) (e b) r) := by
  obtain ⟨hae, he, -, -⟩ := h b
  unfold below
  pointwise
  rw [source_apply h, Ideal.liftRound_coe, floor_coord hae, bits_447, ← EReal.coe_zero, coe_max, coe_min]
  have h1 : (low (a b) (e b) r : ℝ) ≤ 447 := by exact_mod_cast low_le hae he r.isLt
  have h2 : (0 : ℝ) ≤ low (a b) (e b) r := Nat.cast_nonneg _
  rw [Int.cast_natCast, max_eq_right h2, min_eq_right h1]
  have h3 := low_le hae he r.isLt
  exact fptosi_small (by omega)

/-- The upper neighbours. -/
theorem above_apply (b : Fin 64) (r : Fin 224) : above (F := Ideal) A E (ix2 b r) = BitVec.ofNat 32 (high (a b) (e b) r) := by
  obtain ⟨hae, he, -, -⟩ := h b
  have key : ∀ n : Fin 448, IntOp.minsi 447#32 (IntOp.maxsi 0#32 (IntOp.addi (BitVec.ofNat 32 n.val) 1#32)) = BitVec.ofNat 32 (min (n.val + 1) 447) := by
    decide +kernel
  unfold above
  pointwise
  rw [below_apply h]
  have h3 := low_le hae he r.isLt
  exact key ⟨low (a b) (e b) r, by omega⟩

/-- The distances from the lower neighbours. -/
theorem frac_apply (b : Fin 64) (r : Fin 224) : frac (F := Ideal) A E (ix2 b r) = ((part (a b) (e b) r : ℝ) : EReal) := by
  obtain ⟨hae, he, -, -⟩ := h b
  have h3 := low_le hae he r.isLt
  unfold frac
  pointwise
  rw [source_apply h, below_apply h, sitofp_small (by omega), ← EReal.coe_sub]
  rfl

/-- Each lower neighbour is inside the image. -/
theorem low_lt (b : Fin 64) (r : Fin 224) : low (a b) (e b) r < 448 := by
  have h3 := low_le (h b).1 (h b).2.1 r.isLt
  omega

omit h in
/-- Each upper neighbour is inside the image. -/
theorem high_lt (b : Fin 64) (r : Fin 224) : high (a b) (e b) r < 448 := by
  have h3 : high (a b) (e b) r ≤ 447 := high_le
  omega

/-- The lower neighbours are all inside the image. -/
theorem inside_below : Inside (below (F := Ideal) A E) := fun b r => ⟨_, low_lt h b r, below_apply h b r⟩

/-- The upper neighbours are all inside the image. -/
theorem inside_above : Inside (above (F := Ideal) A E) := fun b r => ⟨_, high_lt b r, above_apply h b r⟩

end

/-- The mean of two arrays by row, at an index. -/
theorem blendRows_apply (y0 y1 : FVec Ideal S64x3x224x448 .f32) (f : FVec Ideal S64x224 .f32) (b : Fin 64) (c : Fin 3) (r : Fin 224) (t : Fin 448)
    (p : ℝ) (hf : f (ix2 b r) = (p : EReal)) :
    blendRows (F := Ideal) y0 y1 f (ix4 b c r t) = y0 (ix4 b c r t) * ((1 - p : ℝ) : EReal) + y1 (ix4 b c r t) * (p : EReal) := by
  unfold blendRows
  pointwise
  rw [hf, EReal.coe_sub, EReal.coe_one]

/-- The mean of two arrays by column, at an index. -/
theorem blendCols_apply (y0 y1 : FVec Ideal S64x3x224x224 .f32) (f : FVec Ideal S64x224 .f32) (b : Fin 64) (c : Fin 3) (r q : Fin 224)
    (p : ℝ) (hf : f (ix2 b q) = (p : EReal)) :
    blendCols (F := Ideal) y0 y1 f (ix4 b c r q) = y0 (ix4 b c r q) * ((1 - p : ℝ) : EReal) + y1 (ix4 b c r q) * (p : EReal) := by
  unfold blendCols
  pointwise
  rw [hf, EReal.coe_sub, EReal.coe_one]

section
variable {A E : FVec Ideal S64 .f32} {a e : Fin 64 → ℕ} (h : Crops A E a e)

/-- The rows resampled. -/
theorem resampleRows_apply (x : FVec Ideal S64x3x448x448 .f32) (b : Fin 64) (c : Fin 3) (r : Fin 224) (t : Fin 448) :
    resampleRows (F := Ideal) x A E (ix4 b c r t)
      = x (ix4 b c ⟨low (a b) (e b) r, low_lt h b r⟩ t) * ((1 - part (a b) (e b) r : ℝ) : EReal)
        + x (ix4 b c ⟨high (a b) (e b) r, high_lt b r⟩ t) * ((part (a b) (e b) r : ℝ) : EReal) := by
  rw [resampleRows, blendRows_apply _ _ _ b c r t _ (frac_apply h b r),
    takeRows_apply _ (inside_below h) b c r t _ (low_lt h b r) (below_apply h b r),
    takeRows_apply _ (inside_above h) b c r t _ (high_lt b r) (above_apply h b r)]

/-- The columns resampled. -/
theorem resampleCols_apply (x : FVec Ideal S64x3x224x448 .f32) (b : Fin 64) (c : Fin 3) (r q : Fin 224) :
    resampleCols (F := Ideal) x A E (ix4 b c r q)
      = x (ix4 b c r ⟨low (a b) (e b) q, low_lt h b q⟩) * ((1 - part (a b) (e b) q : ℝ) : EReal)
        + x (ix4 b c r ⟨high (a b) (e b) q, high_lt b q⟩) * ((part (a b) (e b) q : ℝ) : EReal) := by
  rw [resampleCols, blendCols_apply _ _ _ b c r q _ (frac_apply h b q),
    takeCols_apply _ (inside_below h) b c r q _ (low_lt h b q) (below_apply h b q),
    takeCols_apply _ (inside_above h) b c r q _ (high_lt b q) (above_apply h b q)]

end

/-- An image element with its masks. -/
theorem masked_apply {A E A' E' : FVec Ideal S64 .f32} {a e a' e' : Fin 64 → ℕ} (h : Crops A E a e) (h' : Crops A' E' a' e')
    (x : FVec Ideal S64x3x448x448 .f32) (b : Fin 64) (c : Fin 3) (s t : Fin 448) :
    masked (F := Ideal) x (Plain.mask A E) (Plain.mask A' E') (ix4 b c s t)
      = x (ix4 b c s t) * ((Resample.mask (a b) (e b) s : ℝ) : EReal) * ((Resample.mask (a' b) (e' b) t : ℝ) : EReal) := by
  unfold masked
  pointwise
  rw [mask_apply h, mask_apply h']

end Cert.ReferenceIdeal.Reference

end
-- ==== Proof.Scalars.lean ====
/- The crop's scalars at the ideal instance: whatever the location, infinite ones included, the crop of an axis
   begins and ends at whole numbers `a < e ≤ 448`. -/
module

public import proofs.«01_k».proof.Proof.Sample
public import proofs.«01_k».proof.Proof.Numbers

@[expose] public section

noncomputable section

namespace Cert.Scalars

open Cert.KernelIdeal.Sample Cert.Numbers Idealize.ShloMosaic

/-- Half the crop's side as a minimum and a maximum. -/
theorem side_eq (l : EReal) : side (F := Ideal) l = min ((896 / 3 : ℝ) : EReal) (max ((448 / 3 : ℝ) : EReal) l) := by
  show min (Ideal.div (Ideal.ofBits .f32 0x43E00000#32 * Ideal.ofBits .f32 0x40000000#32) (Ideal.ofBits .f32 0x40400000#32))
    (max (Ideal.div (Ideal.ofBits .f32 0x43E00000#32) (Ideal.ofBits .f32 0x40400000#32)) l) = _
  rw [bits_448, bits_2, bits_3, Ideal.div_coe (by norm_num), Ideal.div_coe (by norm_num), ← EReal.coe_mul, ← EReal.coe_mul, ← EReal.coe_mul]
  norm_num

/-- Half the crop's side is a real between 448/3 and 896/3. -/
theorem side_real (l : EReal) : ∃ s : ℝ, side (F := Ideal) l = (s : EReal) ∧ 448 / 3 ≤ s ∧ s ≤ 896 / 3 := by
  have h1 : ((448 / 3 : ℝ) : EReal) ≤ side (F := Ideal) l := by
    rw [side_eq]; exact le_min (by exact_mod_cast (by norm_num : (448 / 3 : ℝ) ≤ 896 / 3)) (le_max_left _ _)
  have h2 : side (F := Ideal) l ≤ ((896 / 3 : ℝ) : EReal) := by rw [side_eq]; exact min_le_left _ _
  generalize side (F := Ideal) l = x at h1 h2
  induction x using EReal.rec with
  | bot => exact absurd h1 (not_le.mpr (EReal.bot_lt_coe _))
  | top => exact absurd h2 (not_le.mpr (EReal.coe_lt_top _))
  | coe s => exact ⟨s, rfl, by exact_mod_cast h1, by exact_mod_cast h2⟩

/-- The crop's centre is a real, at most 448 minus the half side and at least 448/3. -/
theorem centre_real (t l : EReal) {s : ℝ} (hs : side (F := Ideal) l = (s : EReal)) (h : 448 / 3 ≤ s) (h' : s ≤ 896 / 3) :
    ∃ c : ℝ, centre (F := Ideal) t l = (c : EReal) ∧ c ≤ 448 - s ∧ 448 / 3 ≤ c := by
  have e : centre (F := Ideal) t l = min ((448 - s : ℝ) : EReal) (max (s : EReal) t) := by
    show min (Ideal.ofBits .f32 0x43E00000#32 - side (F := Ideal) l) (max (side (F := Ideal) l) t) = _
    rw [bits_448, hs, ← EReal.coe_sub]
  have h1 : ((448 / 3 : ℝ) : EReal) ≤ centre (F := Ideal) t l := by
    rw [e]; exact le_min (by exact_mod_cast (by linarith : (448 / 3 : ℝ) ≤ 448 - s)) (le_max_of_le_left (by exact_mod_cast h))
  have h2 : centre (F := Ideal) t l ≤ ((448 - s : ℝ) : EReal) := by rw [e]; exact min_le_left _ _
  generalize centre (F := Ideal) t l = x at h1 h2
  induction x using EReal.rec with
  | bot => exact absurd h1 (not_le.mpr (EReal.bot_lt_coe _))
  | top => exact absurd h2 (not_le.mpr (EReal.coe_lt_top _))
  | coe c => exact ⟨c, rfl, by exact_mod_cast h2, by exact_mod_cast h1⟩

/-- The crop of an axis begins at a whole number `a` and ends at a whole number `e`, with `a < e ≤ 448`. -/
theorem crop (t l : EReal) : ∃ a e : ℕ, a < e ∧ e ≤ 448
    ∧ lo (F := Ideal) t l = ((a : ℝ) : EReal) ∧ hi (F := Ideal) t l = ((e : ℝ) : EReal) := by
  obtain ⟨s, hs, s1, s2⟩ := side_real l
  obtain ⟨c, hc, c1, c2⟩ := centre_real t l hs s1 s2
  have elo : lo (F := Ideal) t l = ((max (⌊c - s⌋ : ℝ) 0 : ℝ) : EReal) := by
    show max (Ideal.liftRound Int.floor (centre (F := Ideal) t l - side (F := Ideal) l)) (Ideal.ofBits .f32 0#32) = _
    rw [hs, hc, ← EReal.coe_sub, Ideal.liftRound_coe, Ideal.ofBits_zero_f32, ← EReal.coe_zero, EReal.coe_strictMono.monotone.map_max]
  have ehi : hi (F := Ideal) t l = ((if c + s < 448 then (⌊c + s⌋ : ℝ) else 448 : ℝ) : EReal) := by
    show Scalar.select (BitVec.ofBool (decide (centre (F := Ideal) t l + side (F := Ideal) l < Ideal.ofBits .f32 0x43E00000#32)))
      (Ideal.liftRound Int.floor (centre (F := Ideal) t l + side (F := Ideal) l)) (Ideal.ofBits .f32 0x43E00000#32) = _
    rw [hs, hc, ← EReal.coe_add, Ideal.liftRound_coe, bits_448]
    by_cases hlt : c + s < 448
    · rw [if_pos hlt, decide_eq_true (by exact_mod_cast hlt)]; rfl
    · rw [if_neg hlt, decide_eq_false (by exact_mod_cast hlt)]; rfl
  have f1 := Int.floor_le (c - s)
  have f2 := Int.lt_floor_add_one (c + s)
  have f3 := Int.floor_le (c + s)
  -- the crop's first element
  obtain ⟨a, ha, ha'⟩ : ∃ a : ℕ, (a : ℝ) = max (⌊c - s⌋ : ℝ) 0 ∧ (a : ℝ) ≤ max (c - s) 0 := by
    refine ⟨⌊c - s⌋.toNat, ?_, ?_⟩
    · exact_mod_cast Int.toNat_eq_max ⌊c - s⌋
    · have : ((⌊c - s⌋.toNat : ℤ) : ℝ) = max (⌊c - s⌋ : ℝ) 0 := by exact_mod_cast Int.toNat_eq_max ⌊c - s⌋
      rw [show ((⌊c - s⌋.toNat : ℕ) : ℝ) = ((⌊c - s⌋.toNat : ℤ) : ℝ) by norm_cast, this]
      exact max_le_max f1 le_rfl
  -- and the element after its last
  obtain ⟨e, he, he', he''⟩ : ∃ e : ℕ, (e : ℝ) = (if c + s < 448 then (⌊c + s⌋ : ℝ) else 448) ∧ (e : ℝ) ≤ 448
      ∧ (c + s - 1 < e) := by
    by_cases hlt : c + s < 448
    · have hn : 0 ≤ ⌊c + s⌋ := Int.floor_nonneg.mpr (by linarith)
      have : ((⌊c + s⌋.toNat : ℕ) : ℝ) = ⌊c + s⌋ := by exact_mod_cast Int.toNat_of_nonneg hn
      exact ⟨⌊c + s⌋.toNat, by rw [if_pos hlt, this], by rw [this]; linarith, by rw [this]; linarith⟩
    · exact ⟨448, by rw [if_neg hlt]; norm_num, by norm_num, by push_cast; linarith⟩
  refine ⟨a, e, ?_, by exact_mod_cast he', by rw [elo, ha], by rw [ehi, he]⟩
  have : (a : ℝ) < e := by
    rcases le_total (c - s) 0 with h | h
    · rw [max_eq_right h] at ha'; linarith
    · rw [max_eq_left h] at ha'; linarith
  exact_mod_cast this

end Cert.Scalars

end
-- ==== Proof.Equation.lean ====
/- The equation of the claim: at the ideal instance the array the kernel leaves is the reference's result, for every value of
   the images and of the table of locations. -/
module

public import proofs.«01_k».proof.Proof.Array
public import proofs.«01_k».proof.Proof.Reference
public import proofs.«01_k».proof.Proof.Scalars

@[expose] public section

noncomputable section

namespace Cert.Equation

open Cert.ReferenceIdeal Cert.ReferenceIdeal.Plain Cert.ReferenceIdeal.Reference Idealize.ShloMosaic
open Cert.KernelIdeal.Array (stacked picture result)
open Cert.KernelIdeal.Sample (lo hi)
open Cert.Resample (low high part weight low_le high_le resample_eq)

/-- Row `x` of channel `c` of a stacked picture is row `x` of that channel of the image. -/
theorem picture_apply (images : FVec Ideal S64x3x448x448 .f32) (b : Fin 64) (c : Fin 3) (x t : Fin 448) :
    picture (F := Ideal) images b (ix3 0 ⟨c.val * 448 + x.val, by omega⟩ t) = images (ix4 b c x t) := by
  unfold picture stacked
  pointwise

/-- For every table of locations the crops of axis `q` are between whole numbers. -/
theorem crops (locs : FVec Ideal S64x3 .f32) (q : Fin 3) : ∃ a e : Fin 64 → ℕ,
    (∀ b, a b < e b ∧ e b ≤ 448 ∧ lo (F := Ideal) (locs (ix2 b q)) (locs (ix2 b 2)) = ((a b : ℝ) : EReal)
      ∧ hi (F := Ideal) (locs (ix2 b q)) (locs (ix2 b 2)) = ((e b : ℝ) : EReal)) := by
  choose a e h using fun b : Fin 64 => Cert.Scalars.crop (locs (ix2 b q)) (locs (ix2 b 2))
  exact ⟨a, e, h⟩

/-- The reference's crops of axis `q` are the kernel's. -/
theorem reference_crops (locs : FVec Ideal S64x3 .f32) (q : Fin 3) (a e : Fin 64 → ℕ)
    (h : ∀ b, a b < e b ∧ e b ≤ 448 ∧ lo (F := Ideal) (locs (ix2 b q)) (locs (ix2 b 2)) = ((a b : ℝ) : EReal)
      ∧ hi (F := Ideal) (locs (ix2 b q)) (locs (ix2 b 2)) = ((e b : ℝ) : EReal)) :
    Crops (start (F := Ideal) (column locs q) (column locs 2)) (stop (F := Ideal) (column locs q) (column locs 2)) a e := by
  intro b
  rw [start_apply, stop_apply, column_apply, column_apply]
  exact h b

/-- The kernel's array is the reference's result. -/
theorem result_eq (images : FVec Ideal S64x3x448x448 .f32) (locs : FVec Ideal S64x3 .f32) :
    result (F := Ideal) images locs
      = resampled images (start (column locs 0) (column locs 2)) (stop (column locs 0) (column locs 2))
          (start (column locs 1) (column locs 2)) (stop (column locs 1) (column locs 2)) := by
  obtain ⟨a, e, h⟩ := crops locs 0
  obtain ⟨a', e', h'⟩ := crops locs 1
  have H := reference_crops locs 0 a e h
  have H' := reference_crops locs 1 a' e' h'
  suffices key : ∀ (b : Fin 64) (c : Fin 3) (r q : Fin 224), result (F := Ideal) images locs (ix4 b c r q)
      = resampled images (start (column locs 0) (column locs 2)) (stop (column locs 0) (column locs 2))
          (start (column locs 1) (column locs 2)) (stop (column locs 1) (column locs 2)) (ix4 b c r q) by
    funext j
    rw [eq_ix4 j]
    exact key _ _ _ _
  intro b c r q
  obtain ⟨h1, h2, h3, h4⟩ := h b
  obtain ⟨h1', h2', h3', h4'⟩ := h' b
  have L : result (F := Ideal) images locs (ix4 b c r q)
      = ∑ x : Fin 448, ((weight (a b) (e b) x r : ℝ) : EReal)
          * ∑ t : Fin 448, images (ix4 b c x t) * ((weight (a' b) (e' b) t q : ℝ) : EReal) := by
    refine (Cert.Weights.sample_apply _ _ _ (picture images b) c r q (a b) (e b) (a' b) (e' b) h1 h2 h1' h2' h3 h4 h3' h4').trans ?_
    refine Finset.sum_congr rfl fun x _ => ?_
    congr 1
    refine Finset.sum_congr rfl fun t _ => ?_
    rw [picture_apply]
  let A : ℕ → ℕ → EReal := fun x t => if k : x < 448 ∧ t < 448 then images (ix4 b c ⟨x, k.1⟩ ⟨t, k.2⟩) else 0
  have hA : ∀ x t (hx : x < 448) (ht : t < 448), A x t = images (ix4 b c ⟨x, hx⟩ ⟨t, ht⟩) := fun x t hx ht => dif_pos ⟨hx, ht⟩
  have E := resample_eq A (a b) (e b) (a' b) (e' b) r q h1 h2 h1' h2' r.isLt q.isLt
  rw [hA _ _ (low_lt H b r) (low_lt H' b q), hA _ _ (high_lt b r) (low_lt H' b q), hA _ _ (low_lt H b r) (high_lt b q),
    hA _ _ (high_lt b r) (high_lt b q)] at E
  rw [L, resampled, resampleCols_apply H', resampleRows_apply H, resampleRows_apply H, masked_apply H H', masked_apply H H',
    masked_apply H H', masked_apply H H']
  refine Eq.trans ?_ E
  refine Finset.sum_congr rfl fun x _ => ?_
  congr 1
  refine Finset.sum_congr rfl fun t _ => ?_
  rw [hA x t x.isLt t.isLt]

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Array
public import proofs.«01_k».proof.Proof.Plain
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference runs, leaves its arguments unchanged and ends with every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's, element by element, from every value of the arguments. -/
theorem algebraic : Cert.algebraic_KernelIdeal_ReferenceIdeal := by
  intro m ρ m' ρ' _ hagree
  refine ⟨fun c => Cert.KernelIdeal.Array.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c => ⟨(h c).1.trans (Cert.KernelIdeal.Array.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v168_eq _).trans ?_
    rw [StableHlo.launchContents_devRef, StableHlo.launchContents_devRef, (hagree c).1, (hagree c).2, Cert.ReferenceIdeal.Plain.val_eq]
    exact (Cert.Equation.result_eq _ _).symm

/-- The five claims together. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
